-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x256 : Shape := ⟨3, ![8, 512, 256]⟩
abbrev S8x20x256 : Shape := ⟨3, ![8, 20, 256]⟩
abbrev S256x256 : Shape := ⟨2, ![256, 256]⟩
abbrev S4096x256 : Shape := ⟨2, ![4096, 256]⟩
abbrev S1x512x256 : Shape := ⟨3, ![1, 512, 256]⟩
abbrev S1x20x256 : Shape := ⟨3, ![1, 20, 256]⟩
abbrev S512x256 : Shape := ⟨2, ![512, 256]⟩
abbrev S20x256 : Shape := ⟨2, ![20, 256]⟩
abbrev S512x20 : Shape := ⟨2, ![512, 20]⟩
abbrev S512 : Shape := ⟨1, ![512]⟩
abbrev S512x1 : Shape := ⟨2, ![512, 1]⟩
abbrev S509x1 : Shape := ⟨2, ![509, 1]⟩
abbrev S509x32 : Shape := ⟨2, ![509, 32]⟩
abbrev S12x256 : Shape := ⟨2, ![12, 256]⟩
abbrev S32x256 : Shape := ⟨2, ![32, 256]⟩
abbrev S509x256 : Shape := ⟨2, ![509, 256]⟩
abbrev S3x256 : Shape := ⟨2, ![3, 256]⟩
abbrev S4096x2x128 : Shape := ⟨3, ![4096, 2, 128]⟩
abbrev S30784x2x128 : Shape := ⟨3, ![30784, 2, 128]⟩
abbrev S7x64x2x128 : Shape := ⟨4, ![7, 64, 2, 128]⟩
abbrev S7x64 : Shape := ⟨2, ![7, 64]⟩
abbrev S7 : Shape := ⟨1, ![7]⟩
abbrev S16 : Shape := ⟨1, ![16]⟩
abbrev S1x64x2x128 : Shape := ⟨4, ![1, 64, 2, 128]⟩
abbrev S64x2x128 : Shape := ⟨3, ![64, 2, 128]⟩
abbrev S1 : Shape := ⟨1, ![1]⟩
abbrev S_ : Shape := ⟨0, ![]⟩
abbrev S1x16 : Shape := ⟨2, ![1, 16]⟩
abbrev S1x64 : Shape := ⟨2, ![1, 64]⟩
abbrev S64 : Shape := ⟨1, ![64]⟩
abbrev S8x481x8x256 : Shape := ⟨4, ![8, 481, 8, 256]⟩

abbrev nBuf : Table → Nat
  | .hbm => 8
  | .local .tc .vmem => 8
  | .local .scVector .vmem => 2
  | _ => 0

abbrev bufTy : (tb : Table) → Fin (nBuf tb) → BufTy
  | .hbm, ⟨0, _⟩ => ⟨S8x512x256, .f32⟩
  | .hbm, ⟨1, _⟩ => ⟨S8x20x256, .f32⟩
  | .hbm, ⟨2, _⟩ => ⟨S256x256, .f32⟩
  | .hbm, ⟨3, _⟩ => ⟨S256x256, .f32⟩
  | .hbm, ⟨4, _⟩ => ⟨S4096x256, .f32⟩
  | .hbm, ⟨5, _⟩ => ⟨S4096x2x128, .f32⟩
  | .hbm, ⟨6, _⟩ => ⟨S30784x2x128, .f32⟩
  | .hbm, ⟨7, _⟩ => ⟨S8x481x8x256, .f32⟩
  | .local .tc .vmem, ⟨0, _⟩ => ⟨S1x512x256, .f32⟩
  | .local .tc .vmem, ⟨1, _⟩ => ⟨S1x512x256, .f32⟩
  | .local .tc .vmem, ⟨2, _⟩ => ⟨S1x20x256, .f32⟩
  | .local .tc .vmem, ⟨3, _⟩ => ⟨S1x20x256, .f32⟩
  | .local .tc .vmem, ⟨4, _⟩ => ⟨S256x256, .f32⟩
  | .local .tc .vmem, ⟨5, _⟩ => ⟨S256x256, .f32⟩
  | .local .tc .vmem, ⟨6, _⟩ => ⟨S512x256, .f32⟩
  | .local .tc .vmem, ⟨7, _⟩ => ⟨S512x256, .f32⟩
  | .local .scVector .vmem, ⟨0, _⟩ => ⟨S7x64x2x128, .f32⟩
  | .local .scVector .vmem, ⟨1, _⟩ => ⟨S7x64, .i32⟩
  | _, _ => ⟨S8x512x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

@[reducible] def k1_t1_loop (i : grid1.Coords) : Scf.Loop 32 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_14 : BitVec 32 := 1#32
  ⟨c0_i32_12, v32, c1_i32_14⟩
def k1_cond15 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c0_i32_41 : BitVec 32 := 0#32
  let v83 : BitVec 32 := Scalar.addi v54 c0_i32_41
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v84 : BitVec 1 := Scalar.cmpi .slt v83 v4
  let v85 : BitVec 32 := Scalar.extui v84
  let c0_i32_42 : BitVec 32 := 0#32
  let v86 : BitVec 1 := Scalar.cmpi .ne v85 c0_i32_42
  v86

def k1_off1 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c0_i32_41 : BitVec 32 := 0#32
  let v83 : BitVec 32 := Scalar.addi v54 c0_i32_41
  let v111 : BitVec 32 := Scalar.addi v7 v83
  let c64_i32 : BitVec 32 := 64#32
  let v119 : BitVec 32 := Scalar.muli v111 c64_i32
  let c0_i32_70 : BitVec 32 := 0#32
  let c0_i32_71 : BitVec 32 := 0#32
  ![v119.toNat, 0, 0]
def k1_cond16 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c1_i32_43 : BitVec 32 := 1#32
  let v87 : BitVec 32 := Scalar.addi v54 c1_i32_43
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v88 : BitVec 1 := Scalar.cmpi .slt v87 v4
  let v89 : BitVec 32 := Scalar.extui v88
  let c0_i32_44 : BitVec 32 := 0#32
  let v90 : BitVec 1 := Scalar.cmpi .ne v89 c0_i32_44
  v90

def k1_off2 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c1_i32_43 : BitVec 32 := 1#32
  let v87 : BitVec 32 := Scalar.addi v54 c1_i32_43
  let v111 : BitVec 32 := Scalar.addi v7 v87
  let c64_i32 : BitVec 32 := 64#32
  let v119 : BitVec 32 := Scalar.muli v111 c64_i32
  let c0_i32_70 : BitVec 32 := 0#32
  let c0_i32_71 : BitVec 32 := 0#32
  ![v119.toNat, 0, 0]
def k1_cond17 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c2_i32_45 : BitVec 32 := 2#32
  let v91 : BitVec 32 := Scalar.addi v54 c2_i32_45
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v92 : BitVec 1 := Scalar.cmpi .slt v91 v4
  let v93 : BitVec 32 := Scalar.extui v92
  let c0_i32_46 : BitVec 32 := 0#32
  let v94 : BitVec 1 := Scalar.cmpi .ne v93 c0_i32_46
  v94

def k1_off3 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c2_i32_45 : BitVec 32 := 2#32
  let v91 : BitVec 32 := Scalar.addi v54 c2_i32_45
  let v111 : BitVec 32 := Scalar.addi v7 v91
  let c64_i32 : BitVec 32 := 64#32
  let v119 : BitVec 32 := Scalar.muli v111 c64_i32
  let c0_i32_70 : BitVec 32 := 0#32
  let c0_i32_71 : BitVec 32 := 0#32
  ![v119.toNat, 0, 0]
def k1_cond18 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c3_i32_47 : BitVec 32 := 3#32
  let v95 : BitVec 32 := Scalar.addi v54 c3_i32_47
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v96 : BitVec 1 := Scalar.cmpi .slt v95 v4
  let v97 : BitVec 32 := Scalar.extui v96
  let c0_i32_48 : BitVec 32 := 0#32
  let v98 : BitVec 1 := Scalar.cmpi .ne v97 c0_i32_48
  v98

def k1_off4 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c3_i32_47 : BitVec 32 := 3#32
  let v95 : BitVec 32 := Scalar.addi v54 c3_i32_47
  let v111 : BitVec 32 := Scalar.addi v7 v95
  let c64_i32 : BitVec 32 := 64#32
  let v119 : BitVec 32 := Scalar.muli v111 c64_i32
  let c0_i32_70 : BitVec 32 := 0#32
  let c0_i32_71 : BitVec 32 := 0#32
  ![v119.toNat, 0, 0]
def k1_cond19 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c4_i32_49 : BitVec 32 := 4#32
  let v99 : BitVec 32 := Scalar.addi v54 c4_i32_49
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v100 : BitVec 1 := Scalar.cmpi .slt v99 v4
  let v101 : BitVec 32 := Scalar.extui v100
  let c0_i32_50 : BitVec 32 := 0#32
  let v102 : BitVec 1 := Scalar.cmpi .ne v101 c0_i32_50
  v102

def k1_off5 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c4_i32_49 : BitVec 32 := 4#32
  let v99 : BitVec 32 := Scalar.addi v54 c4_i32_49
  let v111 : BitVec 32 := Scalar.addi v7 v99
  let c64_i32 : BitVec 32 := 64#32
  let v119 : BitVec 32 := Scalar.muli v111 c64_i32
  let c0_i32_70 : BitVec 32 := 0#32
  let c0_i32_71 : BitVec 32 := 0#32
  ![v119.toNat, 0, 0]
def k1_cond20 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c5_i32_51 : BitVec 32 := 5#32
  let v103 : BitVec 32 := Scalar.addi v54 c5_i32_51
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v104 : BitVec 1 := Scalar.cmpi .slt v103 v4
  let v105 : BitVec 32 := Scalar.extui v104
  let c0_i32_52 : BitVec 32 := 0#32
  let v106 : BitVec 1 := Scalar.cmpi .ne v105 c0_i32_52
  v106

def k1_off6 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c5_i32_51 : BitVec 32 := 5#32
  let v103 : BitVec 32 := Scalar.addi v54 c5_i32_51
  let v111 : BitVec 32 := Scalar.addi v7 v103
  let c64_i32 : BitVec 32 := 64#32
  let v119 : BitVec 32 := Scalar.muli v111 c64_i32
  let c0_i32_70 : BitVec 32 := 0#32
  let c0_i32_71 : BitVec 32 := 0#32
  ![v119.toNat, 0, 0]
def k1_cond21 (i : grid1.Coords) (k1_t1 : Fin (k1_t1_loop i).trips) : BitVec 1 :=
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c6_i32_53 : BitVec 32 := 6#32
  let v107 : BitVec 32 := Scalar.addi v54 c6_i32_53
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let v108 : BitVec 1 := Scalar.cmpi .slt v107 v4
  let v109 : BitVec 32 := Scalar.extui v108
  let c0_i32_54 : BitVec 32 := 0#32
  let v110 : BitVec 1 := Scalar.cmpi .ne v109 c0_i32_54
  v110

def k1_off7 (i : grid1.Coords) (k1_t1 : Fin (k1_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c1_i32_14 : BitVec 32 := 1#32
  let arg8 : BitVec 32 := Scf.iv c0_i32_12 c1_i32_14 k1_t1
  let c7_i32_26 : BitVec 32 := 7#32
  let v54 : BitVec 32 := Scalar.muli arg8 c7_i32_26
  let c6_i32_53 : BitVec 32 := 6#32
  let v107 : BitVec 32 := Scalar.addi v54 c6_i32_53
  let v111 : BitVec 32 := Scalar.addi v7 v107
  let c64_i32 : BitVec 32 := 64#32
  let v119 : BitVec 32 := Scalar.muli v111 c64_i32
  let c0_i32_70 : BitVec 32 := 0#32
  let c0_i32_71 : BitVec 32 := 0#32
  ![v119.toNat, 0, 0]
@[reducible] def k1_t2_loop (i : grid1.Coords) : Scf.Loop 32 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let v29 : BitVec 32 := Scalar.addi c0_i32_12 v28
  let c1_i32_15 : BitVec 32 := 1#32
  ⟨v32, v29, c1_i32_15⟩
def k1_cond36 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c0_i32_41 : BitVec 32 := 0#32
  let v83 : BitVec 32 := Scalar.addi v54 c0_i32_41
  let v84 : BitVec 1 := Scalar.cmpi .slt v83 v4
  let v85 : BitVec 32 := Scalar.extui v84
  let c0_i32_42 : BitVec 32 := 0#32
  let v86 : BitVec 1 := Scalar.cmpi .ne v85 c0_i32_42
  v86

def k1_off8 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c0_i32_41 : BitVec 32 := 0#32
  let v83 : BitVec 32 := Scalar.addi v54 c0_i32_41
  let v111 : BitVec 32 := Scalar.addi v7 v83
  let c64_i32 : BitVec 32 := 64#32
  let v119 : BitVec 32 := Scalar.muli v111 c64_i32
  let c0_i32_70 : BitVec 32 := 0#32
  let c0_i32_71 : BitVec 32 := 0#32
  ![v119.toNat, 0, 0]
def k1_cond37 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c1_i32_43 : BitVec 32 := 1#32
  let v87 : BitVec 32 := Scalar.addi v54 c1_i32_43
  let v88 : BitVec 1 := Scalar.cmpi .slt v87 v4
  let v89 : BitVec 32 := Scalar.extui v88
  let c0_i32_44 : BitVec 32 := 0#32
  let v90 : BitVec 1 := Scalar.cmpi .ne v89 c0_i32_44
  v90

def k1_off9 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c1_i32_43 : BitVec 32 := 1#32
  let v87 : BitVec 32 := Scalar.addi v54 c1_i32_43
  let v111 : BitVec 32 := Scalar.addi v7 v87
  let c64_i32 : BitVec 32 := 64#32
  let v119 : BitVec 32 := Scalar.muli v111 c64_i32
  let c0_i32_70 : BitVec 32 := 0#32
  let c0_i32_71 : BitVec 32 := 0#32
  ![v119.toNat, 0, 0]
def k1_cond38 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c2_i32_45 : BitVec 32 := 2#32
  let v91 : BitVec 32 := Scalar.addi v54 c2_i32_45
  let v92 : BitVec 1 := Scalar.cmpi .slt v91 v4
  let v93 : BitVec 32 := Scalar.extui v92
  let c0_i32_46 : BitVec 32 := 0#32
  let v94 : BitVec 1 := Scalar.cmpi .ne v93 c0_i32_46
  v94

def k1_off10 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c2_i32_45 : BitVec 32 := 2#32
  let v91 : BitVec 32 := Scalar.addi v54 c2_i32_45
  let v111 : BitVec 32 := Scalar.addi v7 v91
  let c64_i32 : BitVec 32 := 64#32
  let v119 : BitVec 32 := Scalar.muli v111 c64_i32
  let c0_i32_70 : BitVec 32 := 0#32
  let c0_i32_71 : BitVec 32 := 0#32
  ![v119.toNat, 0, 0]
def k1_cond39 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c3_i32_47 : BitVec 32 := 3#32
  let v95 : BitVec 32 := Scalar.addi v54 c3_i32_47
  let v96 : BitVec 1 := Scalar.cmpi .slt v95 v4
  let v97 : BitVec 32 := Scalar.extui v96
  let c0_i32_48 : BitVec 32 := 0#32
  let v98 : BitVec 1 := Scalar.cmpi .ne v97 c0_i32_48
  v98

def k1_off11 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c3_i32_47 : BitVec 32 := 3#32
  let v95 : BitVec 32 := Scalar.addi v54 c3_i32_47
  let v111 : BitVec 32 := Scalar.addi v7 v95
  let c64_i32 : BitVec 32 := 64#32
  let v119 : BitVec 32 := Scalar.muli v111 c64_i32
  let c0_i32_70 : BitVec 32 := 0#32
  let c0_i32_71 : BitVec 32 := 0#32
  ![v119.toNat, 0, 0]
def k1_cond40 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c4_i32_49 : BitVec 32 := 4#32
  let v99 : BitVec 32 := Scalar.addi v54 c4_i32_49
  let v100 : BitVec 1 := Scalar.cmpi .slt v99 v4
  let v101 : BitVec 32 := Scalar.extui v100
  let c0_i32_50 : BitVec 32 := 0#32
  let v102 : BitVec 1 := Scalar.cmpi .ne v101 c0_i32_50
  v102

def k1_off12 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c4_i32_49 : BitVec 32 := 4#32
  let v99 : BitVec 32 := Scalar.addi v54 c4_i32_49
  let v111 : BitVec 32 := Scalar.addi v7 v99
  let c64_i32 : BitVec 32 := 64#32
  let v119 : BitVec 32 := Scalar.muli v111 c64_i32
  let c0_i32_70 : BitVec 32 := 0#32
  let c0_i32_71 : BitVec 32 := 0#32
  ![v119.toNat, 0, 0]
def k1_cond41 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c5_i32_51 : BitVec 32 := 5#32
  let v103 : BitVec 32 := Scalar.addi v54 c5_i32_51
  let v104 : BitVec 1 := Scalar.cmpi .slt v103 v4
  let v105 : BitVec 32 := Scalar.extui v104
  let c0_i32_52 : BitVec 32 := 0#32
  let v106 : BitVec 1 := Scalar.cmpi .ne v105 c0_i32_52
  v106

def k1_off13 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c5_i32_51 : BitVec 32 := 5#32
  let v103 : BitVec 32 := Scalar.addi v54 c5_i32_51
  let v111 : BitVec 32 := Scalar.addi v7 v103
  let c64_i32 : BitVec 32 := 64#32
  let v119 : BitVec 32 := Scalar.muli v111 c64_i32
  let c0_i32_70 : BitVec 32 := 0#32
  let c0_i32_71 : BitVec 32 := 0#32
  ![v119.toNat, 0, 0]
def k1_cond42 (i : grid1.Coords) (k1_t2 : Fin (k1_t2_loop i).trips) : BitVec 1 :=
  let c0_i32_12 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c6_i32_53 : BitVec 32 := 6#32
  let v107 : BitVec 32 := Scalar.addi v54 c6_i32_53
  let v108 : BitVec 1 := Scalar.cmpi .slt v107 v4
  let v109 : BitVec 32 := Scalar.extui v108
  let c0_i32_54 : BitVec 32 := 0#32
  let v110 : BitVec 1 := Scalar.cmpi .ne v109 c0_i32_54
  v110

def k1_off14 (i : grid1.Coords) (k1_t2 : Fin (k1_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_1 : BitVec 32 := 15#32
  let v5 : BitVec 32 := Scalar.muli v1 c15_i32_1
  let c1_i32_2 : BitVec 32 := 1#32
  let v6 : BitVec 32 := Scalar.minsi v1 c1_i32_2
  let v7 : BitVec 32 := Scalar.addi v5 v6
  let c0_i32_12 : BitVec 32 := 0#32
  let c15_i32 : BitVec 32 := 15#32
  let c1_i32 : BitVec 32 := 1#32
  let v2 : BitVec 1 := Scalar.cmpi .slt v1 c1_i32
  let c1_i32_0 : BitVec 32 := 1#32
  let c0_i32 : BitVec 32 := 0#32
  let v3 : BitVec 32 := Scalar.select v2 c1_i32_0 c0_i32
  let v4 : BitVec 32 := Scalar.addi c15_i32 v3
  let c7_i32 : BitVec 32 := 7#32
  let v9 : BitVec 32 := Scalar.addi v4 c7_i32
  let c1_i32_3 : BitVec 32 := 1#32
  let v10 : BitVec 32 := Scalar.subi v9 c1_i32_3
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c7_i32_4 : BitVec 32 := 7#32
  let c0_i32_7 : BitVec 32 := 0#32
  let v17 : BitVec 1 := Scalar.cmpi .sgt c7_i32_4 c0_i32_7
  let v18 : BitVec 32 := Scalar.extui v17
  let c0_i32_8 : BitVec 32 := 0#32
  let v19 : BitVec 1 := Scalar.cmpi .slt c7_i32_4 c0_i32_8
  let v20 : BitVec 32 := Scalar.extui v19
  let v21 : BitVec 32 := Scalar.subi v18 v20
  let v22 : BitVec 1 := Scalar.cmpi .ne v16 v21
  let v23 : BitVec 32 := Scalar.remsi v10 c7_i32_4
  let c0_i32_9 : BitVec 32 := 0#32
  let v24 : BitVec 1 := Scalar.cmpi .ne v23 c0_i32_9
  let v25 : BitVec 1 := Scalar.andi v22 v24
  let v11 : BitVec 32 := Scalar.divsi v10 c7_i32_4
  let c1_i32_10 : BitVec 32 := 1#32
  let v26 : BitVec 32 := Scalar.subi v11 c1_i32_10
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k1_t2
  let c7_i32_26 : BitVec 32 := 7#32
  let v54 : BitVec 32 := Scalar.muli arg8 c7_i32_26
  let c6_i32_53 : BitVec 32 := 6#32
  let v107 : BitVec 32 := Scalar.addi v54 c6_i32_53
  let v111 : BitVec 32 := Scalar.addi v7 v107
  let c64_i32 : BitVec 32 := 64#32
  let v119 : BitVec 32 := Scalar.muli v111 c64_i32
  let c0_i32_70 : BitVec 32 := 0#32
  let c0_i32_71 : BitVec 32 := 0#32
  ![v119.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512x256 : Shape := ⟨3, ![8, 512, 256]⟩
abbrev S8x20x256 : Shape := ⟨3, ![8, 20, 256]⟩
abbrev S256x256 : Shape := ⟨2, ![256, 256]⟩
abbrev S8x512x20 : Shape := ⟨3, ![8, 512, 20]⟩
abbrev S_ : Shape := ⟨0, ![]⟩
abbrev S8x512 : Shape := ⟨2, ![8, 512]⟩
abbrev S481 : Shape := ⟨1, ![481]⟩
abbrev S481x1 : Shape := ⟨2, ![481, 1]⟩
abbrev S32 : Shape := ⟨1, ![32]⟩
abbrev S1x32 : Shape := ⟨2, ![1, 32]⟩
abbrev S481x32 : Shape := ⟨2, ![481, 32]⟩
abbrev S481x32x1 : Shape := ⟨3, ![481, 32, 1]⟩
abbrev S8x481x32x256 : Shape := ⟨4, ![8, 481, 32, 256]⟩
abbrev S8x481x32 : Shape := ⟨3, ![8, 481, 32]⟩
abbrev S8x481x8x4 : Shape := ⟨4, ![8, 481, 8, 4]⟩
abbrev S8x481x8x4x1 : Shape := ⟨5, ![8, 481, 8, 4, 1]⟩
abbrev S1x1x1x1x20 : Shape := ⟨5, ![1, 1, 1, 1, 20]⟩
abbrev S8x481x8x4x20 : Shape := ⟨5, ![8, 481, 8, 4, 20]⟩
abbrev S8x481x8x20 : Shape := ⟨4, ![8, 481, 8, 20]⟩
abbrev S8x481x8 : Shape := ⟨3, ![8, 481, 8]⟩
abbrev S8x481x8x4x256 : Shape := ⟨5, ![8, 481, 8, 4, 256]⟩
abbrev S8x481x8x256 : Shape := ⟨4, ![8, 481, 8, 256]⟩
abbrev S8x481x8x1 : Shape := ⟨4, ![8, 481, 8, 1]⟩

abbrev nBuf : Space → Nat
  | .hbm => 67
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x20x256, .f32⟩
  | .hbm, ⟨2, _⟩ => ⟨S256x256, .f32⟩
  | .hbm, ⟨3, _⟩ => ⟨S256x256, .f32⟩
  | .hbm, ⟨4, _⟩ => ⟨S8x20x256, .f32⟩
  | .hbm, ⟨5, _⟩ => ⟨S8x20x256, .f32⟩
  | .hbm, ⟨6, _⟩ => ⟨S8x512x20, .f32⟩
  | .hbm, ⟨7, _⟩ => ⟨S8x512x20, .i32⟩
  | .hbm, ⟨8, _⟩ => ⟨S_, .f32⟩
  | .hbm, ⟨9, _⟩ => ⟨S_, .i32⟩
  | .hbm, ⟨10, _⟩ => ⟨S8x512, .f32⟩
  | .hbm, ⟨11, _⟩ => ⟨S8x512, .i32⟩
  | .hbm, ⟨12, _⟩ => ⟨S481, .i32⟩
  | .hbm, ⟨13, _⟩ => ⟨S481x1, .i32⟩
  | .hbm, ⟨14, _⟩ => ⟨S32, .i32⟩
  | .hbm, ⟨15, _⟩ => ⟨S1x32, .i32⟩
  | .hbm, ⟨16, _⟩ => ⟨S481x32, .i32⟩
  | .hbm, ⟨17, _⟩ => ⟨S481x32, .i32⟩
  | .hbm, ⟨18, _⟩ => ⟨S481x32, .i32⟩
  | .hbm, ⟨19, _⟩ => ⟨S_, .i32⟩
  | .hbm, ⟨20, _⟩ => ⟨S481x32, .i32⟩
  | .hbm, ⟨21, _⟩ => ⟨S481x32, .i1⟩
  | .hbm, ⟨22, _⟩ => ⟨S_, .i32⟩
  | .hbm, ⟨23, _⟩ => ⟨S481x32, .i32⟩
  | .hbm, ⟨24, _⟩ => ⟨S481x32, .i32⟩
  | .hbm, ⟨25, _⟩ => ⟨S481x32, .i32⟩
  | .hbm, ⟨26, _⟩ => ⟨S481x32x1, .i32⟩
  | .hbm, ⟨27, _⟩ => ⟨S8x481x32x256, .f32⟩
  | .hbm, ⟨28, _⟩ => ⟨S_, .i32⟩
  | .hbm, ⟨29, _⟩ => ⟨S481x32, .i32⟩
  | .hbm, ⟨30, _⟩ => ⟨S481x32, .i1⟩
  | .hbm, ⟨31, _⟩ => ⟨S_, .i32⟩
  | .hbm, ⟨32, _⟩ => ⟨S481x32, .i32⟩
  | .hbm, ⟨33, _⟩ => ⟨S481x32, .i32⟩
  | .hbm, ⟨34, _⟩ => ⟨S481x32, .i32⟩
  | .hbm, ⟨35, _⟩ => ⟨S481x32x1, .i32⟩
  | .hbm, ⟨36, _⟩ => ⟨S8x481x32, .i32⟩
  | .hbm, ⟨37, _⟩ => ⟨S8x481x8x4, .i32⟩
  | .hbm, ⟨38, _⟩ => ⟨S8x481x8x4x1, .i32⟩
  | .hbm, ⟨39, _⟩ => ⟨S1x1x1x1x20, .i32⟩
  | .hbm, ⟨40, _⟩ => ⟨S8x481x8x4x20, .i32⟩
  | .hbm, ⟨41, _⟩ => ⟨S8x481x8x4x20, .i32⟩
  | .hbm, ⟨42, _⟩ => ⟨S8x481x8x4x20, .i1⟩
  | .hbm, ⟨43, _⟩ => ⟨S8x481x8x4x20, .f32⟩
  | .hbm, ⟨44, _⟩ => ⟨S_, .f32⟩
  | .hbm, ⟨45, _⟩ => ⟨S8x481x8x20, .f32⟩
  | .hbm, ⟨46, _⟩ => ⟨S8x481x8x20, .i32⟩
  | .hbm, ⟨47, _⟩ => ⟨S_, .f32⟩
  | .hbm, ⟨48, _⟩ => ⟨S_, .i32⟩
  | .hbm, ⟨49, _⟩ => ⟨S8x481x8, .f32⟩
  | .hbm, ⟨50, _⟩ => ⟨S8x481x8, .i32⟩
  | .hbm, ⟨51, _⟩ => ⟨S8x481x8x4x256, .f32⟩
  | .hbm, ⟨52, _⟩ => ⟨S_, .f32⟩
  | .hbm, ⟨53, _⟩ => ⟨S8x481x8x256, .f32⟩
  | .hbm, ⟨54, _⟩ => ⟨S_, .f32⟩
  | .hbm, ⟨55, _⟩ => ⟨S8x481x8x256, .f32⟩
  | .hbm, ⟨56, _⟩ => ⟨S8x481x8x256, .f32⟩
  | .hbm, ⟨57, _⟩ => ⟨S_, .i32⟩
  | .hbm, ⟨58, _⟩ => ⟨S8x481x8, .i32⟩
  | .hbm, ⟨59, _⟩ => ⟨S8x481x8, .i1⟩
  | .hbm, ⟨60, _⟩ => ⟨S_, .i32⟩
  | .hbm, ⟨61, _⟩ => ⟨S8x481x8, .i32⟩
  | .hbm, ⟨62, _⟩ => ⟨S8x481x8, .i32⟩
  | .hbm, ⟨63, _⟩ => ⟨S8x481x8, .i32⟩
  | .hbm, ⟨64, _⟩ => ⟨S8x481x8x1, .i32⟩
  | .hbm, ⟨65, _⟩ => ⟨S8x481x8x256, .f32⟩
  | .hbm, ⟨66, _⟩ => ⟨S8x481x8x256, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_call2_v0 : Ref sig .tc := ⟨.hbm, 46, rfl⟩
abbrev main_call2_cst : Ref sig .tc := ⟨.hbm, 47, rfl⟩
abbrev main_call2_c : Ref sig .tc := ⟨.hbm, 48, rfl⟩
abbrev main_call2_v1_0 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Proof.ScText.lean ====
/-
  The SparseCore tile program, restated once per slot: the printed body unrolls its ring of seven slots, so the text
  of one gather, one store and one drain appears seven times with the slot number as the only difference. Here each of
  the three is one definition over the slot number `j`, and the printed parts are shown equal to them by unfolding.
-/
module

public import proofs.«01_k».proof.Proof.Gen.KernelIdeal

@[expose] public section

noncomputable section

namespace Cert.Proof.Sc

open Cert.KernelIdeal Cert.KernelIdeal.Gen
open Idealize.ShloMosaic Idealize.SL.Sem

variable {F : FTy → Type} [FloatOps F]

/-- The arrays the tile program names: the table, the output, the ring of row slots, the ring of index lists. -/
abbrev tV : Memref sig .scVector .hbm S4096x2x128 .f32 := Memref.whole main_v1_scv
abbrev oV : Memref sig .scVector .hbm S30784x2x128 .f32 := Memref.whole main_v2_scv
abbrev aV : Memref sig .scVector .vmem S7x64x2x128 .f32 := Memref.whole cc1_scratch0
abbrev lV : Memref sig .scVector .vmem S7x64 .i32 := Memref.whole cc1_scratch1

/-- The tile's programs. -/
abbrev TP (L : grid1.Coords) (α : Type) : Type 1 :=
  Prog (TpuEff nD τ sig (Elt F) Λ₀ (.scVector ((L 0).castLE hcore1) ((L 1).castLE hsub1))) α

theorem slot_inb {j : Nat} (hj : j < 7) : ∀ a, (![j, 0, 0, 0] : Fin 4 → Nat) a + S1x64x2x128.size a ≤ S7x64x2x128.size a := by
  intro a; fin_cases a
  · show j + 1 ≤ 7; omega
  · show 0 + 64 ≤ 64; omega
  · show 0 + 2 ≤ 2; omega
  · show 0 + 128 ≤ 128; omega
theorem row_inb {j : Nat} (hj : j < 7) : ∀ a, (![j, 0] : Fin 2 → Nat) a + S1x64.size a ≤ S7x64.size a := by
  intro a; fin_cases a
  · show j + 1 ≤ 7; omega
  · show 0 + 64 ≤ 64; omega
theorem piece_inb {j o : Nat} (hj : j < 7) (ho : o ≤ 48) : ∀ a, (![j, o] : Fin 2 → Nat) a + S1x16.size a ≤ S7x64.size a := by
  intro a; fin_cases a
  · show j + 1 ≤ 7; omega
  · show o + 16 ≤ 64; omega
theorem sem_inb {j : Nat} (hj : j < 7) : ∀ a, (![j] : Fin 1 → Nat) a + S1.size a ≤ S7.size a := by
  intro a; fin_cases a; show j + 1 ≤ 7; omega

/-- Slot `j` of the ring of rows, and of the ring of lists. -/
abbrev aS {j : Nat} (hj : j < 7) : Memref sig .scVector .vmem S64x2x128 .f32 :=
  (aV.slice (Rect.unit (s := S7x64x2x128) ![j, 0, 0, 0] S1x64x2x128.size (slot_inb hj)) (fun _ => rfl)).squeeze S64x2x128 squeezes_S1x64x2x128_S64x2x128
abbrev lS {j : Nat} (hj : j < 7) : Memref sig .scVector .vmem S64 .i32 :=
  (lV.slice (Rect.unit (s := S7x64) ![j, 0] S1x64.size (row_inb hj)) (fun _ => rfl)).squeeze S64 squeezes_S1x64_S64
/-- Sixteen words of list `j` from word `o`. -/
abbrev lR {j o : Nat} (hj : j < 7) (ho : o ≤ 48) : Rect S7x64 := Rect.unit (s := S7x64) ![j, o] S1x16.size (piece_inb hj ho)
/-- The table as the gather names it: a slice that is all of it. -/
abbrev tS : Memref sig .scVector .hbm S4096x2x128 .f32 :=
  tV.slice (Rect.unit (s := S4096x2x128) ![0, 0, 0] S4096x2x128.size inb_S4096x2x128_S4096x2x128_0_0_0) (fun _ => rfl)
/-- The chunk of the output the waits of a store name (any chunk would do: only its size counts). -/
abbrev oW : Memref sig .scVector .hbm S64x2x128 .f32 :=
  oV.slice (Rect.unit (s := S30784x2x128) ![0, 0, 0] S64x2x128.size inb_S30784x2x128_S64x2x128_0_0_0) (fun _ => rfl)
/-- The output's chunk at offsets `off`. -/
abbrev oC (off : Fin 3 → Nat) (h : ∀ a, off a + S64x2x128.size a ≤ S30784x2x128.size a) : Memref sig .scVector .hbm S64x2x128 .f32 :=
  oV.slice (Rect.unit (s := S30784x2x128) off S64x2x128.size h) (fun _ => rfl)
/-- Slot `j`'s semaphores: the gathers' and the stores'. -/
abbrev gS {j : Nat} (hj : j < 7) : DmaSem sig :=
  ((cc1_scratch2.slice (Rect.unit (s := S7) ![j] S1.size (sem_inb hj))).squeeze S_ squeezes_S1_S_).sem
abbrev sS {j : Nat} (hj : j < 7) : DmaSem sig :=
  ((cc1_scratch3.slice (Rect.unit (s := S7) ![j] S1.size (sem_inb hj))).squeeze S_ squeezes_S1_S_).sem

/-- A comparison as the branches test it. -/
abbrev bit (b : BitVec 1) : BitVec 1 := Scalar.cmpi .ne (Scalar.extui b : BitVec 32) 0#32

/-- The sixteen positions' window numbers: `8·(v7 + v55) + q`, plus one for the upper eight lanes. -/
abbrev winV (v7 : BitVec 32) (v8 : IVec S16 32) (v55 q : BitVec 32) : IVec S16 32 :=
  addi (broadcast S16 (Scalar.addi (Scalar.muli (Scalar.addi v7 v55) 8#32) q)) (shrsi v8 (broadcast S16 3#32))
/-- The lane within its window. -/
abbrev laneV (v8 : IVec S16 32) : IVec S16 32 := andi v8 (broadcast S16 7#32)
/-- The window number times 545, whose top bits are the number divided by 481. -/
abbrev mulV (g : IVec S16 32) : IVec S16 32 := muli g (broadcast S16 545#32)
/-- The table row of lane `k` of window `g`, from `g`, `k` and `g·545`. -/
abbrev rowV (g k p : IVec S16 32) : IVec S16 32 :=
  addi (addi (muli (shrsi p (broadcast S16 18#32)) (broadcast S16 512#32))
    (subi g (muli (shrsi p (broadcast S16 18#32)) (broadcast S16 481#32)))) (muli (broadcast S16 4#32) k)
/-- Sixteen table rows of a chunk. -/
abbrev idxV (v7 : BitVec 32) (v8 : IVec S16 32) (v55 q : BitVec 32) : IVec S16 32 :=
  rowV (winV v7 v8 v55 q) (laneV v8) (mulV (winV v7 v8 v55 q))

/-- Load a piece of list `j` (the value is unused) and store `w` there. -/
abbrev putL (L : grid1.Coords) {j o : Nat} (hj : j < 7) (ho : o ≤ 48) (w : IVec S16 32) {α : Type} (k : TP (F := F) L α) : TP (F := F) L α := do
  let _x : Vec F S1x16 .i32 ← Prog.lift (.load lV (lR hj ho).toLoadRect (View.loadsAt_vmem h_S1x16))
  Prog.lift (.store lV (lR hj ho) (shapeCast S1x16 w shapeCasts_S16_S1x16) Finset.univ (View.stores_vmem_bits_univ h_S1x16 rfl) (.inl rfl))
  k

/-- Wait for slot `j`'s store, if `c`. -/
abbrev drain (L : grid1.Coords) {j : Nat} (hj : j < 7) (c : BitVec 1) {α : Type} (k : TP (F := F) L α) : TP (F := F) L α :=
  if _h : c = 1#1 then do
    Prog.lift (.waitDma2 (sS hj) (aS hj) oW ((View.wordExact_bits rfl).reshape _ _) (View.wordExact_bits rfl))
    k
  else k

/-- Start a gather into slot `j`, if chunk `v55` is the tile's: wait for the slot's last store (if this is not the
    first trip), compute the 64 table rows, start the gather. -/
abbrev gather (L : grid1.Coords) {j : Nat} (hj : j < 7) (v4 v7 : BitVec 32) (v8 : IVec S16 32) (arg8 v55 : BitVec 32) {α : Type}
    (k : TP (F := F) L α) : TP (F := F) L α :=
  if _h : bit (Scalar.cmpi .slt v55 v4) = 1#1 then
    drain L hj (bit (Scalar.cmpi .sge arg8 1#32)) <|
    putL L hj (by decide : 0 ≤ 48) (idxV v7 v8 v55 0#32) <|
    putL L hj (by decide : 16 ≤ 48) (idxV v7 v8 v55 2#32) <|
    putL L hj (by decide : 32 ≤ 48) (idxV v7 v8 v55 4#32) <|
    putL L hj (by decide : 48 ≤ 48) (idxV v7 v8 v55 6#32) <| do
    SparseCore.enqueueIndirectGather rfl tS (aS hj) gathers_S4096x2x128_S64x2x128 (lS hj) rfl (gS hj) (View.wordExact_bits rfl) rfl (Or.inl rfl)
    k
  else k

/-- Finish slot `j`'s gather and start its store, if `c`. -/
abbrev store (L : grid1.Coords) {j : Nat} (hj : j < 7) (c : BitVec 1) (off : Fin 3 → Nat)
    (hoff : c = 1#1 → ∀ a, off a + S64x2x128.size a ≤ S30784x2x128.size a) {α : Type} (k : TP (F := F) L α) : TP (F := F) L α :=
  if h : c = 1#1 then do
    SparseCore.waitIndirectGather (gS hj) tS (aS hj) (View.wordExact_bits rfl) ((View.wordExact_bits rfl).reshape _ _)
    Prog.lift (.enqueueDma (aS hj) (.here (oC off (hoff h))) (.dma (sS hj)) ((View.wordExact_bits rfl).reshape _ _) (View.wordExact_bits rfl) ⟨Or.inl rfl, trivial⟩)
    k
  else k

/-- The scalars of the tile program: how many chunks the tile has, its first, the lane numbers. -/
def nV (L : grid1.Coords) : BitVec 32 :=
  Scalar.addi 15#32 (Scalar.select (Scalar.cmpi .slt (Scalar.addi (Scalar.muli (BitVec.ofNat 32 (L 1).val) 2#32) (BitVec.ofNat 32 (L 0).val)) 1#32) 1#32 0#32)
def fV (L : grid1.Coords) : BitVec 32 :=
  Scalar.addi (Scalar.muli (Scalar.addi (Scalar.muli (BitVec.ofNat 32 (L 1).val) 2#32) (BitVec.ofNat 32 (L 0).val)) 15#32)
    (Scalar.minsi (Scalar.addi (Scalar.muli (BitVec.ofNat 32 (L 1).val) 2#32) (BitVec.ofNat 32 (L 0).val)) 1#32)
abbrev lanes : IVec S16 32 := iota .scVector S16 32 [0] iota_S16_d0_w32_scVector
/-- The trip number, and the chunk number of slot `j` (as a word) at a trip. -/
abbrev tripV (t : Nat) : BitVec 32 := Scf.iv 0#32 1#32 t
abbrev chunkV (t : Nat) (j : BitVec 32) : BitVec 32 := Scalar.addi (Scalar.muli (tripV t) 7#32) j

/-- The first half of a trip: the seven gathers, then the first slot's store. -/
def trip15 (L : grid1.Coords) (k1_t1 : Fin (k1_t1_loop L).trips) : TP (F := F) L (Σ' (_ : BitVec 32), BitVec 32) :=
  gather L (by decide : 0 < 7) (nV L) (fV L) lanes (tripV k1_t1) (chunkV k1_t1 0#32) <|
  gather L (by decide : 1 < 7) (nV L) (fV L) lanes (tripV k1_t1) (chunkV k1_t1 1#32) <|
  gather L (by decide : 2 < 7) (nV L) (fV L) lanes (tripV k1_t1) (chunkV k1_t1 2#32) <|
  gather L (by decide : 3 < 7) (nV L) (fV L) lanes (tripV k1_t1) (chunkV k1_t1 3#32) <|
  gather L (by decide : 4 < 7) (nV L) (fV L) lanes (tripV k1_t1) (chunkV k1_t1 4#32) <|
  gather L (by decide : 5 < 7) (nV L) (fV L) lanes (tripV k1_t1) (chunkV k1_t1 5#32) <|
  gather L (by decide : 6 < 7) (nV L) (fV L) lanes (tripV k1_t1) (chunkV k1_t1 6#32) <|
  store L (by decide : 0 < 7) (k1_cond15 L k1_t1) (k1_off1 L k1_t1) (k1_off1_inb L k1_t1) <|
  pure ⟨Scalar.muli (tripV k1_t1) 7#32, 1#32⟩

theorem dite_bind {E : Type → Type} {α β : Type} {c : Prop} [Decidable c] (A : c → Prog E α) (B : ¬c → Prog E α) (k : α → Prog E β) :
    (dite c A B >>= k) = dite c (fun h => A h >>= k) (fun h => B h >>= k) := by
  split <;> rfl

theorem part15_eq (L : grid1.Coords) (k1_t1 : Fin (k1_t1_loop L).trips) :
    k1_part15 (F := F) L tV (Memref.isWhole_whole _) oV (Memref.isWhole_whole _) aV (Memref.isWhole_whole _) lV (Memref.isWhole_whole _) cc1_scratch2 cc1_scratch3
      (nV L) (fV L) lanes 0#32 1#32 k1_t1 = trip15 L k1_t1 := by
  unfold k1_part15 trip15
  iterate 7
    (extract_lets -underBinder -merge
     rename_i jp
     refine Eq.trans (?_ : _ = gather L _ _ _ _ _ _ (jp ⟨⟩)) (congrArg (gather L _ _ _ _ _ _) ?_)
     · clear_value jp
       unfold gather
       refine dite_congr rfl (fun _ => ?_) fun _ => rfl
       simp only [k1_part1, k1_part3, k1_part5, k1_part7, k1_part9, k1_part11, k1_part13, dite_bind]
       rfl
     unfold jp
     beta_reduce
     clear jp)
  rfl

/-- The seven stores' conditions and offsets at a trip are the printed ones; the rest of a trip after the first
    slot's store. -/
def trip (L : grid1.Coords) (k1_t1 : Fin (k1_t1_loop L).trips) : TP (F := F) L PUnit := do
  let _ ← trip15 L k1_t1
  store L (by decide : 1 < 7) (k1_cond16 L k1_t1) (k1_off2 L k1_t1) (k1_off2_inb L k1_t1) <|
  store L (by decide : 2 < 7) (k1_cond17 L k1_t1) (k1_off3 L k1_t1) (k1_off3_inb L k1_t1) <|
  store L (by decide : 3 < 7) (k1_cond18 L k1_t1) (k1_off4 L k1_t1) (k1_off4_inb L k1_t1) <|
  store L (by decide : 4 < 7) (k1_cond19 L k1_t1) (k1_off5 L k1_t1) (k1_off5_inb L k1_t1) <|
  store L (by decide : 5 < 7) (k1_cond20 L k1_t1) (k1_off6 L k1_t1) (k1_off6_inb L k1_t1) <|
  store L (by decide : 6 < 7) (k1_cond21 L k1_t1) (k1_off7 L k1_t1) (k1_off7_inb L k1_t1) <|
  pure ⟨⟩

/-- The whole tile program: the trips, then the seven drains. -/
def tile (L : grid1.Coords) : TP (F := F) L PUnit := do
  Scf.Loop.for (k1_t1_loop L) (k1_t1_ok L) ⟨⟩ fun k1_t1 _ => trip L k1_t1
  drain L (by decide : 0 < 7) (bit (Scalar.cmpi .sgt (nV L) 0#32)) <|
  drain L (by decide : 1 < 7) (bit (Scalar.cmpi .sgt (nV L) 1#32)) <|
  drain L (by decide : 2 < 7) (bit (Scalar.cmpi .sgt (nV L) 2#32)) <|
  drain L (by decide : 3 < 7) (bit (Scalar.cmpi .sgt (nV L) 3#32)) <|
  drain L (by decide : 4 < 7) (bit (Scalar.cmpi .sgt (nV L) 4#32)) <|
  drain L (by decide : 5 < 7) (bit (Scalar.cmpi .sgt (nV L) 5#32)) <|
  drain L (by decide : 6 < 7) (bit (Scalar.cmpi .sgt (nV L) 6#32)) <|
  pure ⟨⟩

theorem t2_trips : ∀ L : grid1.Coords, (k1_t2_loop L).trips = 0 := by decide +kernel

/-- A loop of no trips returns its initial value. -/
theorem for_none {E : Type → Type} {σ β : Type} (l : Scf.Loop 32) (h : l.trips = 0) (hok : l.OK) (init : σ) (body : Fin l.trips → σ → Prog E σ)
    (k : σ → Prog E β) : (Scf.Loop.for l hok init body >>= k) = k init := by
  rw [Scf.Loop.for, Scf.for_eq]
  have : List.finRange (Scf.trips l.lb l.ub l.st) = [] := by
    apply List.eq_nil_of_length_eq_zero; simpa using h
  rw [this]; rfl

/-- Two loops over one range with equal regions, and what follows them. -/
theorem for_congr {E : Type → Type} {β : Type} (l : Scf.Loop 32) (hok : l.OK) {A A' : Fin l.trips → PUnit.{1} → Prog E PUnit.{1}}
    {k k' : PUnit.{1} → Prog E β} (h : ∀ t u, A t u = A' t u) (hk : ∀ u, k u = k' u) :
    (Scf.Loop.for l hok ⟨⟩ A >>= k) = (Scf.Loop.for l hok ⟨⟩ A' >>= k') := by
  obtain rfl : A = A' := funext fun t => funext fun u => h t u
  obtain rfl : k = k' := funext hk
  rfl

theorem part31_eq (L : grid1.Coords) :
    k1_part31 (F := F) L tV (Memref.isWhole_whole _) oV (Memref.isWhole_whole _) aV (Memref.isWhole_whole _) lV (Memref.isWhole_whole _) cc1_scratch2 cc1_scratch3
      = (Scf.Loop.for (k1_t1_loop L) (k1_t1_ok L) ⟨⟩ (fun k1_t1 _ => trip (F := F) L k1_t1) >>= fun _ => pure ⟨nV L, Scalar.cmpi .sgt (nV L) 0#32⟩) := by
  unfold k1_part31
  extract_lets -underBinder -merge
  refine for_congr _ _ (fun t _ => ?_) fun _ => ?_
  · unfold trip
    refine (congrArg (fun p => p >>= _) (part15_eq L t)).trans (bind_congr fun x => ?_)
    obtain ⟨w54, w1⟩ := x
    rfl
  · exact for_none _ (t2_trips L) _ _ _ _

theorem expand_eq (L : grid1.Coords) :
    cc1_expand (F := F) L tV (Memref.isWhole_whole _) oV (Memref.isWhole_whole _) aV (Memref.isWhole_whole _) lV (Memref.isWhole_whole _) cc1_scratch2 cc1_scratch3
      = tile L := by
  unfold cc1_expand tile
  rw [part31_eq]
  refine (bind_assoc _ _ _).trans ?_
  refine for_congr _ _ (fun t _ => rfl) fun _ => ?_
  refine (pure_bind _ _).trans ?_
  rfl

end Cert.Proof.Sc

end
-- ==== Proof.ScWords.lean ====
/-
  The tile program's words as numbers: how many chunks a tile has and which, the branches' conditions, the chunks'
  offsets, and the table rows the index arithmetic computes.
-/
module

public import proofs.«01_k».proof.Proof.ScText

@[expose] public section

noncomputable section

namespace Cert.Proof.Sc

open Cert.KernelIdeal Cert.KernelIdeal.Gen
open Idealize.ShloMosaic Idealize.SL.Sem

/-- Tile `L`'s number among the 32. -/
abbrev wN (L : grid1.Coords) : Nat := 2 * (L 1).val + (L 0).val
/-- How many chunks of 64 rows tile `L` has, and the first of them. -/
abbrev nN (L : grid1.Coords) : Nat := if wN L = 0 then 16 else 15
abbrev c0N (L : grid1.Coords) : Nat := 15 * wN L + min (wN L) 1
/-- Slot `j`'s chunk at trip `t`. -/
abbrev chN (L : grid1.Coords) (j t : Nat) : Nat := c0N L + (7 * t + j)

/-- The table row that output row `r` copies: window `r / 8`, its quarter-row lane `r % 8`. -/
abbrev srcRow (r : Nat) : Nat := r / 8 / 481 * 512 + r / 8 % 481 + 4 * (r % 8)

theorem srcRow_lt {r : Nat} (h : r < 30784) : srcRow r < 4096 := by
  have : r / 8 / 481 < 8 := by omega
  have : r / 8 % 481 < 481 := Nat.mod_lt _ (by decide)
  show r / 8 / 481 * 512 + r / 8 % 481 + 4 * (r % 8) < 4096
  omega

theorem trips3 (L : grid1.Coords) : (k1_t1_loop L).trips = 3 := by revert L; decide +kernel

theorem act_gather : ∀ (L : grid1.Coords) (t : Fin (k1_t1_loop L).trips) (j : Fin 7),
    bit (Scalar.cmpi .slt (chunkV t (BitVec.ofNat 32 j)) (nV L)) = 1#1 ↔ 7 * t.val + j.val < nN L := by decide +kernel
theorem act_drain : ∀ (L : grid1.Coords) (t : Fin (k1_t1_loop L).trips),
    bit (Scalar.cmpi .sge (tripV t) 1#32) = 1#1 ↔ 1 ≤ t.val := by decide +kernel
theorem act_last : ∀ (L : grid1.Coords) (j : Fin 7), bit (Scalar.cmpi .sgt (nV L) (BitVec.ofNat 32 j)) = 1#1 := by decide +kernel

theorem act_store0 : ∀ (L : grid1.Coords) (t : Fin (k1_t1_loop L).trips), k1_cond15 L t = 1#1 ↔ 7 * t.val + 0 < nN L := by decide +kernel
theorem act_store1 : ∀ (L : grid1.Coords) (t : Fin (k1_t1_loop L).trips), k1_cond16 L t = 1#1 ↔ 7 * t.val + 1 < nN L := by decide +kernel
theorem act_store2 : ∀ (L : grid1.Coords) (t : Fin (k1_t1_loop L).trips), k1_cond17 L t = 1#1 ↔ 7 * t.val + 2 < nN L := by decide +kernel
theorem act_store3 : ∀ (L : grid1.Coords) (t : Fin (k1_t1_loop L).trips), k1_cond18 L t = 1#1 ↔ 7 * t.val + 3 < nN L := by decide +kernel
theorem act_store4 : ∀ (L : grid1.Coords) (t : Fin (k1_t1_loop L).trips), k1_cond19 L t = 1#1 ↔ 7 * t.val + 4 < nN L := by decide +kernel
theorem act_store5 : ∀ (L : grid1.Coords) (t : Fin (k1_t1_loop L).trips), k1_cond20 L t = 1#1 ↔ 7 * t.val + 5 < nN L := by decide +kernel
theorem act_store6 : ∀ (L : grid1.Coords) (t : Fin (k1_t1_loop L).trips), k1_cond21 L t = 1#1 ↔ 7 * t.val + 6 < nN L := by decide +kernel

theorem off_store0 : ∀ (L : grid1.Coords) (t : Fin (k1_t1_loop L).trips), k1_off1 L t = ![64 * chN L 0 t, 0, 0] := by decide +kernel
theorem off_store1 : ∀ (L : grid1.Coords) (t : Fin (k1_t1_loop L).trips), k1_off2 L t = ![64 * chN L 1 t, 0, 0] := by decide +kernel
theorem off_store2 : ∀ (L : grid1.Coords) (t : Fin (k1_t1_loop L).trips), k1_off3 L t = ![64 * chN L 2 t, 0, 0] := by decide +kernel
theorem off_store3 : ∀ (L : grid1.Coords) (t : Fin (k1_t1_loop L).trips), k1_off4 L t = ![64 * chN L 3 t, 0, 0] := by decide +kernel
theorem off_store4 : ∀ (L : grid1.Coords) (t : Fin (k1_t1_loop L).trips), k1_off5 L t = ![64 * chN L 4 t, 0, 0] := by decide +kernel
theorem off_store5 : ∀ (L : grid1.Coords) (t : Fin (k1_t1_loop L).trips), k1_off6 L t = ![64 * chN L 5 t, 0, 0] := by decide +kernel
theorem off_store6 : ∀ (L : grid1.Coords) (t : Fin (k1_t1_loop L).trips), k1_off7 L t = ![64 * chN L 6 t, 0, 0] := by decide +kernel

/-- The words of the lists: position `p` of quarter `q` of slot `j`'s list at trip `t` is the table row that output
    row `64·chunk + 16·q + p` copies. -/
theorem idx_word : ∀ (L : grid1.Coords) (t : Fin (k1_t1_loop L).trips) (j : Fin 7) (q : Fin 4) (p : S16.Idx),
    7 * t.val + j.val < nN L →
    (idxV (fV L) lanes (chunkV t (BitVec.ofNat 32 j)) (BitVec.ofNat 32 (2 * q.val)) p).toNat = srcRow (64 * chN L j t + (16 * q.val + (p 0).val)) := by
  decide +kernel

end Cert.Proof.Sc

end
-- ==== Proof.ScBase.lean ====
/-
  The SparseCore call as the launch theorem sees it: its configuration, the ghost state, the arrays' locations.
-/
module

public import proofs.«01_k».proof.Proof.ScWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds, and the copies' counters. -/
abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP embR
  infer_instance

/-- The table the tiles read and the array they fill, on device `d`. -/
abbrev tLoc (d : Dev nD) : Loc nD τ sig := (SparseCore.T d).loc main_v1
abbrev oLoc (d : Dev nD) : Loc nD τ sig := (SparseCore.T d).loc main_v2

/-- Tile `L`'s thread. -/
abbrev cV (L : grid1.Coords) : Fin τ.nSC := (L 0).castLE hcore1
abbrev jV (L : grid1.Coords) : Fin τ.nSub := (L 1).castLE hsub1
abbrev th (d : Dev nD) (L : grid1.Coords) : Thread nD τ := V d (cV L) (jV L)

/-- What the call leaves: each output row the table row it copies. -/
def gathered {α : Type} (t : S4096x2x128.Idx → α) : S30784x2x128.Idx → α := fun x =>
  t (fun | 0 => ⟨srcRow (x 0).val, srcRow_lt (x 0).isLt⟩ | 1 => x 1 | 2 => x 2)

/-- The rows of chunk `n`; those of slot `j`'s chunk at trip `t`, none if the tile has no such chunk. -/
def chunkSet (n : Nat) : Finset S30784x2x128.Idx := Finset.univ.filter fun x => 64 * n ≤ (x 0).val ∧ (x 0).val < 64 * n + 64
def chSet (L : grid1.Coords) (j t : Nat) : Finset S30784x2x128.Idx := if 7 * t + j < nN L then chunkSet (chN L j t) else ∅

end Cert.Proof.Sc

end
-- ==== Proof.ScModRun.lean ====
/-
  The TensorCore kernel's body at any grid point: run from its five windows' buffers held whole, it returns with the four inputs
  as they were and the output block at one function of what the inputs read, `modOut`.
-/
module

public import proofs.«01_k».proof.Proof.ScBase
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Regions

@[expose] public section

noncomputable section

namespace Cert.Proof.Sc

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The rows the kernel computes, from the four input blocks. -/
def modRows (x0 : Vec F S1x512x256 .f32) (x1 : Vec F S1x20x256 .f32) (x2 x3 : Vec F S256x256 .f32) : FVec F S509x256 .f32 :=
  k0_pay1 (k0_pay3 x0)
    (k0_pay14 (k0_pay5 x1 x3) (k0_pay7 x0 x1 x2) (k0_pay8 x0 x1 x2) (k0_pay9 x0 x1 x2) (k0_pay10 x0 x1 x2)
      (k0_pay11 x0 x1 x2) (k0_pay12 x0 x1 x2) (k0_pay13 x0 x1 x2))
    (k0_pay15 (k0_pay3 x0)) (k0_pay16 (k0_pay3 x0))

/-- The two stores, last first. -/
abbrev modPieces (x0 : Vec F S1x512x256 .f32) (x1 : Vec F S1x20x256 .f32) (x2 x3 : Vec F S256x256 .f32) : List (View.Piece (Elt F) S512x256 .f32) :=
  [⟨Rect.unit (s := S512x256) ![509, 0] S3x256.size inb_S512x256_S3x256_509_0, k0_pay2 (F := F)⟩,
   ⟨Rect.unit (s := S512x256) ![0, 0] S509x256.size inb_S512x256_S509x256_0_0, modRows x0 x1 x2 x3⟩]

/-- What the body leaves in the output block. -/
def modOut [∀ e, Nonempty (Elt F e)] (x0 : Vec F S1x512x256 .f32) (x1 : Vec F S1x20x256 .f32) (x2 x3 : Vec F S256x256 .f32) : Vec F S512x256 .f32 :=
  View.canon (modPieces x0 x1 x2 x3)

/-- The two stores fill the block. -/
theorem modPieces_cover (x0 : Vec F S1x512x256 .f32) (x1 : Vec F S1x20x256 .f32) (x2 x3 : Vec F S256x256 .f32) (y : S512x256.Idx) :
    ∃ p ∈ modPieces x0 x1 x2 x3, y ∈ p.1.set := by
  by_cases h : (y 0).val < 509
  · refine ⟨_, List.mem_cons_of_mem _ List.mem_cons_self, ?_⟩
    rw [Rect.mem_set_unit]
    intro a; fin_cases a
    · exact ⟨Nat.zero_le _, by simpa using h⟩
    · exact ⟨Nat.zero_le _, by simpa using (y 1).isLt⟩
  · refine ⟨_, List.mem_cons_self, ?_⟩
    rw [Rect.mem_set_unit]
    intro a; fin_cases a
    · exact ⟨by simpa using h, by simpa using (y 0).isLt⟩
    · exact ⟨Nat.zero_le _, by simpa using (y 1).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

variable [∀ e, Nonempty (Elt F e)]

/-- The body's run. -/
theorem modRun (c : Dev nD) (i : grid0.Coords)
    (M1 : Memref sig .tc .vmem S1x512x256 .f32) (h1 : M1.IsWhole) (M2 : Memref sig .tc .vmem S1x20x256 .f32) (h2 : M2.IsWhole)
    (M3 : Memref sig .tc .vmem S256x256 .f32) (h3 : M3.IsWhole) (M4 : Memref sig .tc .vmem S256x256 .f32) (h4 : M4.IsWhole)
    (M5 : Memref sig .tc .vmem S512x256 .f32) (h5 : M5.IsWhole)
    (f1 : Bf (F := F) c M1) (f2 : Bf (F := F) c M2) (f3 : Bf (F := F) c M3) (f4 : Bf (F := F) c M4) (f5 : Bf (F := F) c M5)
    (E : Set ℕ) (Q : PUnit → sProp 𝕄) :
    iprop(pt c M1 f1 ∗ pt c M2 f2 ∗ pt c M3 f3 ∗ pt c M4 f4 ∗ pt c M5 f5
      ∗ (∀ g : Bf (F := F) c M5, (⌜M5.view.read (Elt F) g = modOut (M1.view.read (Elt F) f1) (M2.view.read (Elt F) f2) (M3.view.read (Elt F) f3) (M4.view.read (Elt F) f4)⌝
          ∗ pt c M1 f1 ∗ pt c M2 f2 ∗ pt c M3 f3 ∗ pt c M4 f4 ∗ pt c M5 g) -∗ Q ⟨⟩))
      ⊢ wp frame (wpE (defs₀ (F := F)) 𝒱₀ (c : Thread nD τ) none) E (cc0__modavg_kernel i M1 h1 M2 h2 M3 h3 M4 h4 M5 h5) Q := by
  rw [cc0__modavg_kernel_eq_skeleton]
  unfold cc0__modavg_kernel_skel
  rw [k0_part1_eq_skeleton, k0_part2_eq_skeleton]
  unfold k0_part1_skel k0_part2_skel
  iintro ⟨H1, H2, H3, H4, H5, Hk⟩
  sl_exec!
  sl_step
  have hg : M5.view.read (Elt F) (M5.view.writes (Elt F) M5.view.junk (modRun.sl.H5_2 c M1 M2 M3 M4 f1 f2 f3 f4))
      = modOut (M1.view.read (Elt F) f1) (M2.view.read (Elt F) f2) (M3.view.read (Elt F) f3) (M4.view.read (Elt F) f4) := by
    rw [View.read_writes_junk_eq_canon]
    unfold modOut
    have e : modRun.sl.H5_2 c M1 M2 M3 M4 f1 f2 f3 f4 = modPieces
      (View.ld (M1.view.read (Elt F) f1) (Rect.unit (s := S1x512x256) ![0, 0, 0] S1x512x256.size inb_S1x512x256_S1x512x256_0_0_0))
      (View.ld (M2.view.read (Elt F) f2) (Rect.unit (s := S1x20x256) ![0, 0, 0] S1x20x256.size inb_S1x20x256_S1x20x256_0_0_0))
      (View.ld (M3.view.read (Elt F) f3) (Rect.unit (s := S256x256) ![0, 0] S256x256.size inb_S256x256_S256x256_0_0))
      (View.ld (M4.view.read (Elt F) f4) (Rect.unit (s := S256x256) ![0, 0] S256x256.size inb_S256x256_S256x256_0_0)) := by
      unfold modRun.sl.H5_2
      rfl
    rw [e]
    rw [View.ld_unit_zero hz3, View.ld_unit_zero hz3, View.ld_unit_zero hz2, View.ld_unit_zero hz2]
  iapply Hk
  isplitr
  · ipureintro; exact hg
  isplitl [H1]; · iexact H1
  isplitl [H2]; · iexact H2
  isplitl [H3]; · iexact H3
  isplitl [H4]; · iexact H4
  iexact H5

end Cert.Proof.Sc

end
-- ==== Proof.ScRegion.lean ====
/-
  The TensorCore kernel as a region of @main, entered while the TensorCore still owes the SparseCores the handshakes of the call to
  come: its proof data at the launch contents, the body obligation from the body's run, and the region over the unscoped buffers.
-/
module

public import proofs.«01_k».proof.Proof.ScModRun
public import Idealize.ShloMosaic.Lib.Pipeline.RegionsLoop

@[expose] public section

noncomputable section

namespace Cert.Proof.Sc

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [∀ e, Nonempty (Elt F e)]

local notation "𝕄" => MT nD τ sig (HIx 1) (Elt F) ℕ UU ℕ

variable (m : (ℓ : Loc nD τ sig) → Buf (Elt F) ℓ)

/-- The launch contents as the TensorCore's buffers. -/
abbrev V (c : Dev nD) (b : Ref sig .tc) : Buf (Elt F) ((c : Thread nD τ).loc b) := m ((c : Thread nD τ).loc b)

/-- The input windows' blocks at point `t`, and what the body leaves in the output's. -/
abbrev blk0 (c : Dev nD) (t : Fin cfg0.N) : Vec F S1x512x256 .f32 := ((cfg0.win 0).blk t).view.read (Elt F) (V m c main_arg0)
abbrev blk1 (c : Dev nD) (t : Fin cfg0.N) : Vec F S1x20x256 .f32 := ((cfg0.win 1).blk t).view.read (Elt F) (V m c main_arg1)
abbrev blk2 (c : Dev nD) (t : Fin cfg0.N) : Vec F S256x256 .f32 := ((cfg0.win 2).blk t).view.read (Elt F) (V m c main_arg2)
abbrev blk3 (c : Dev nD) (t : Fin cfg0.N) : Vec F S256x256 .f32 := ((cfg0.win 3).blk t).view.read (Elt F) (V m c main_arg3)
def blk4 (c : Dev nD) (t : Fin cfg0.N) : Vec F S512x256 .f32 := modOut (blk0 m c t) (blk1 m c t) (blk2 m c t) (blk3 m c t)

/-- The waits the TensorCore may have recorded before the call. -/
def low (c : Dev nD) : Set (SemLoc sig × HIx 1) := {p | (K (F := F)).lev ((c : Thread nD τ), p.1) p.2 ≤ 0}

def dat (c : Dev nD) : Dat τ (Elt F) (HIx 1) ℕ UU ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
  Φ _ := iprop(emp)
  q _ := fullShare
  owed _ := (K (F := F)).Otc c 0
  recorded _ := low (F := F) c

theorem before0 (c : Dev nD) (t : Fin cfg0.N) (x) : (dat m c).before 0 t x = blk0 m c t :=
  Pipeline.Dat.before_in_eq_fetched (dat m c) 0 rfl (fun _ => rfl) (fun _ _ _ => rfl) (fun _ => rfl) t x
theorem before1 (c : Dev nD) (t : Fin cfg0.N) (x) : (dat m c).before 1 t x = blk1 m c t :=
  Pipeline.Dat.before_in_eq_fetched (dat m c) 1 rfl (fun _ => rfl) (fun _ _ _ => rfl) (fun _ => rfl) t x
theorem before2 (c : Dev nD) (t : Fin cfg0.N) (x) : (dat m c).before 2 t x = blk2 m c t :=
  Pipeline.Dat.before_in_eq_fetched (dat m c) 2 rfl (fun _ => rfl) (fun _ _ _ => rfl) (fun _ => rfl) t x
theorem before3 (c : Dev nD) (t : Fin cfg0.N) (x) : (dat m c).before 3 t x = blk3 m c t :=
  Pipeline.Dat.before_in_eq_fetched (dat m c) 3 rfl (fun _ => rfl) (fun _ _ _ => rfl) (fun _ => rfl) t x

theorem owns_isWhole (c : Thread nD τ) {sp : Space} {sh : Shape} {e : EltTy} (M : Memref sig c.2.kind sp sh e) (h : M.IsWhole) (q : PosShare TreeShare)
    (X : sh.Idx → Elt F e) : (owns c M q X : sProp 𝕄) = iprop(∃ f, ⌜M.view.read (Elt F) f = X⌝ ∗ M.view.loc c ↦{q} f) := by
  unfold owns; rw [h.set_eq_univ]

set_option maxHeartbeats 2000000 in
/-- The body at every point. -/
theorem body_obligation (c : Dev nD) : BodyObligation (dat m c) (defs₀ (F := F)) 𝒱₀ none Set.univ := fun t => by
  rw [bigSep_W0, bigSep_W0]
  have w0 := fun X => owns_isWhole (F := F) (c : Thread nD τ) (st0_0 t) (hstage0_0 ((cfg0.slots t 0).cast nbuf0_0)) fullShare X
  have w1 := fun X => owns_isWhole (F := F) (c : Thread nD τ) (st0_1 t) (hstage0_1 ((cfg0.slots t 1).cast nbuf0_1)) fullShare X
  have w2 := fun X => owns_isWhole (F := F) (c : Thread nD τ) (st0_2 t) (hstage0_2 ((cfg0.slots t 2).cast nbuf0_2)) fullShare X
  have w3 := fun X => owns_isWhole (F := F) (c : Thread nD τ) (st0_3 t) (hstage0_3 ((cfg0.slots t 3).cast nbuf0_3)) fullShare X
  have w4 := fun X => owns_isWhole (F := F) (c : Thread nD τ) (st0_4 t) (hstage0_4 ((cfg0.slots t 4).cast nbuf0_4)) fullShare X
  simp only [w0, w1, w2, w3, w4]
  rw [show (dat m c).Φ t.succ = (dat m c).Φ t.castSucc from rfl, show (dat m c).owesAt none t.succ = (dat m c).owesAt none t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0] at hf0
  rw [before1] at hf1
  rw [before2] at hf2
  rw [before3] at hf3
  iapply (modRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    f0 f1 f2 f3 f4 Set.univ _)
  isplitl [H0]; · iexact H0
  isplitl [H1]; · iexact H1
  isplitl [H2]; · iexact H2
  isplitl [H3]; · iexact H3
  isplitl [H4]; · iexact H4
  iintro %g ⟨%hg, H0, H1, H2, H3, H4⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists g; isplitr; swap; (· iexact H4)
  ipureintro
  rw [hf0, hf1, hf2, hf3] at hg
  exact hg

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c := fun _ c => dat m c

/-- The kernel's result array after the region. -/
def tcOut (c : Dev nD) : Buf (Elt F) ((c : Thread nD τ).loc main_v0) := (dat m c).arrAt 4 cfg0.N
/-- The TensorCore's buffers after the region. -/
def Vp (c : Dev nD) : (b : Ref sig .tc) → Buf (Elt F) ((c : Thread nD τ).loc b) := Function.update (V m c) main_v0 (tcOut m c)

theorem Vp_ne (c : Dev nD) (b : Ref sig .tc) (h : b ≠ main_v0) : Vp m c b = V m c b := Function.update_of_ne h _ _
theorem Vp_out (c : Dev nD) : Vp m c main_v0 = tcOut m c := Function.update_self _ _ _

/-- What the TensorCore owes the SparseCores before the call. -/
abbrev due (c : Dev nD) : sProp 𝕄 := iprop(∃ W, ⌜(K (F := F)).WBelow (c : Thread nD τ) W 0⌝ ∗ owes (c : Thread nD τ) ((K (F := F)).Otc c 0) W)

theorem Otc_none (c : Dev nD) (g : GSem nD τ sig) : (K (F := F)).Otc c 0 g none = 0 := by
  by_contra h
  have := (K (F := F)).lev_of_Otc_pos (Nat.pos_of_ne_zero h)
  exact absurd this (by simp [SparseCore.Cfg.lev])

set_option backward.isDefEq.respectTransparency.types false in
/-- The region over the unscoped buffers. -/
def reg : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ _ _ 0 c fun _ _ _ => (K (F := F)).mayWait_none _ (Otc_none c)
  pre c := iprop(unscopedBufs c (V m c) ∗ due c)
  post c := iprop(unscopedBufs c (Vp m c) ∗ due c)
  X _ := BI.emp
  Y _ := BI.emp
  Z c := Pipeline.unscopedRest (Ix := HIx 1) (Name := ℕ) (U := UU) (Lvl := ℕ) spec0 c (V m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats m 0 c).Φ 0 = iprop(emp) from rfl]
    iintro -; iempintro
  hout c := by
    rw [Pipeline.ownSems0_none, show (pdats m 0 c).Φ (Fin.last _) = iprop(emp) from rfl,
      show (Pipeline.scopedRest (Pipeline.pin (pcfgs (F := F)) adm 0).spec c : sProp 𝕄) = BI.emp from scopedRest0_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch0.win launch0.arr_whole c
      (pdats m) ((pdats m 0 c).share_full fun _ => rfl) (V m c) (Vp m c) ((pdats m 0 c).arrAt · cfg0.N)
      (fun w => by
        fin_cases w
        · exact ((pdats m 0 c).arrAt_in 0 rfl _).trans (Vp_ne m c main_arg0 (by decide)).symm
        · exact ((pdats m 0 c).arrAt_in 1 rfl _).trans (Vp_ne m c main_arg1 (by decide)).symm
        · exact ((pdats m 0 c).arrAt_in 2 rfl _).trans (Vp_ne m c main_arg2 (by decide)).symm
        · exact ((pdats m 0 c).arrAt_in 3 rfl _).trans (Vp_ne m c main_arg3 (by decide)).symm
        · exact (Vp_out m c).symm)
      (fun b hb => Vp_ne m c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.le_of_eq (by simp [SparseCore.Cfg.lev])
    iexact HO

end Cert.Proof.Sc

end
-- ==== Proof.ScSlot.lean ====
/-
  One slot of the ring: what its gather's list holds once filled, and what the three steps of a slot — start a gather,
  finish it and start the store, wait for the store — take and give.
-/
module

public import proofs.«01_k».proof.Proof.ScBase

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Where the views lie -/

theorem emb_aS {j : Nat} (hj : j < 7) (x : S64x2x128.Idx) (a : Fin 4) :
    ((aS hj).view.emb x a).val = (![j, (x 0).val, (x 1).val, (x 2).val] : Fin 4 → Nat) a := by
  show ((Rect.unit (s := S7x64x2x128) ![j, 0, 0, 0] S1x64x2x128.size (slot_inb hj)).emb (Shape.reshapeEquiv squeezes_S1x64x2x128_S64x2x128.numel_eq x) a).val = _
  rw [Shape.reshapeEquiv_cons_one]
  match a with
  | 0 => rfl
  | 1 => show 0 + 1 * (x 0).val = (x 0).val; omega
  | 2 => show 0 + 1 * (x 1).val = (x 1).val; omega
  | 3 => show 0 + 1 * (x 2).val = (x 2).val; omega

theorem emb_lS {j : Nat} (hj : j < 7) (x : S64.Idx) (a : Fin 2) :
    ((lS hj).view.emb x a).val = (![j, (x 0).val] : Fin 2 → Nat) a := by
  show ((Rect.unit (s := S7x64) ![j, 0] S1x64.size (row_inb hj)).emb (Shape.reshapeEquiv squeezes_S1x64_S64.numel_eq x) a).val = _
  rw [Shape.reshapeEquiv_cons_one]
  match a with
  | 0 => rfl
  | 1 => show 0 + 1 * (x 0).val = (x 0).val; omega

theorem set_aS {j : Nat} (hj : j < 7) : (aS hj).view.set = (Finset.univ.filter fun x : S7x64x2x128.Idx => (x 0).val = j) := by
  refine (View.set_reshape _ _).trans ((View.set_slice_whole _ _).trans (Finset.ext fun x => ?_))
  rw [Rect.mem_set_unit, Finset.mem_filter]
  refine ⟨fun h => ⟨Finset.mem_univ _, ?_⟩, fun h a => ?_⟩
  · have := h 0
    change j ≤ (x 0).val ∧ (x 0).val < j + 1 at this
    omega
  · have hx := (x a).isLt
    fin_cases a
    · change j ≤ (x 0).val ∧ (x 0).val < j + 1
      omega
    · exact ⟨Nat.zero_le _, lt_of_lt_of_eq hx (Nat.zero_add _).symm⟩
    · exact ⟨Nat.zero_le _, lt_of_lt_of_eq hx (Nat.zero_add _).symm⟩
    · exact ⟨Nat.zero_le _, lt_of_lt_of_eq hx (Nat.zero_add _).symm⟩

theorem set_lS {j : Nat} (hj : j < 7) : (lS hj).view.set = (Finset.univ.filter fun x : S7x64.Idx => (x 0).val = j) := by
  refine (View.set_reshape _ _).trans ((View.set_slice_whole _ _).trans (Finset.ext fun x => ?_))
  rw [Rect.mem_set_unit, Finset.mem_filter]
  refine ⟨fun h => ⟨Finset.mem_univ _, ?_⟩, fun h a => ?_⟩
  · have := h 0
    change j ≤ (x 0).val ∧ (x 0).val < j + 1 at this
    omega
  · have hx := (x a).isLt
    fin_cases a
    · change j ≤ (x 0).val ∧ (x 0).val < j + 1
      omega
    · exact ⟨Nat.zero_le _, lt_of_lt_of_eq hx (Nat.zero_add _).symm⟩

theorem set_lR {j o : Nat} (hj : j < 7) (ho : o ≤ 48) : (lV.access (lR hj ho)).set ⊆ (lS hj).view.set := by
  rw [set_lS]
  refine fun x hx => ?_
  have hx : x ∈ (lR hj ho).set := (Finset.ext_iff.mp (View.set_slice_whole cc1_scratch1 (lR hj ho)) x).mp hx
  rw [Rect.mem_set_unit] at hx
  have := hx 0
  change j ≤ (x 0).val ∧ (x 0).val < j + 1 at this
  rw [Finset.mem_filter]
  exact ⟨Finset.mem_univ _, by omega⟩

theorem set_tS : tS.view.set = Finset.univ := by
  refine (View.set_slice_whole _ _).trans (Finset.ext fun x => ?_)
  rw [Rect.mem_set_unit]
  refine ⟨fun _ => Finset.mem_univ _, fun _ a => ?_⟩
  have hx := (x a).isLt
  fin_cases a <;> exact ⟨Nat.zero_le _, lt_of_lt_of_eq hx (Nat.zero_add _).symm⟩

theorem emb_tS (x : S4096x2x128.Idx) : tS.view.emb x = x := by
  show (Rect.unit (s := S4096x2x128) ![0, 0, 0] S4096x2x128.size _).emb x = x
  funext a; apply Fin.ext
  fin_cases a <;> simp [Rect.emb, Rect.unit]

theorem set_oC (n : Nat) (h) : (oC ![64 * n, 0, 0] h).view.set = chunkSet n := by
  refine (View.set_slice_whole _ _).trans (Finset.ext fun x => ?_)
  rw [Rect.mem_set_unit, chunkSet, Finset.mem_filter]
  refine ⟨fun h => ⟨Finset.mem_univ _, ?_⟩, fun h a => ?_⟩
  · exact h 0
  · have hx := (x a).isLt
    fin_cases a
    · exact h.2
    · exact ⟨Nat.zero_le _, lt_of_lt_of_eq hx (Nat.zero_add _).symm⟩
    · exact ⟨Nat.zero_le _, lt_of_lt_of_eq hx (Nat.zero_add _).symm⟩

/-! ## The list -/

/-- A list's contents once sixteen words are stored in it. -/
abbrev putF {j o : Nat} (hj : j < 7) (ho : o ≤ 48) (f : S7x64.Idx → BitVec 32) (w : IVec S16 32) : S7x64.Idx → BitVec 32 :=
  (lV.access (lR hj ho)).write (Elt F) f (shapeCast S1x16 w shapeCasts_S16_S1x16) Finset.univ

theorem putF_apply {j o : Nat} (hj : j < 7) (ho : o ≤ 48) (f : S7x64.Idx → BitVec 32) (w : IVec S16 32) (i : S7x64.Idx) (h0 : (i 0).val = j) :
    putF (F := F) hj ho f w i = if h : o ≤ (i 1).val ∧ (i 1).val < o + 16 then w (fun | 0 => ⟨(i 1).val - o, by show _ < 16; omega⟩) else f i := by
  by_cases h : o ≤ (i 1).val ∧ (i 1).val < o + 16
  · rw [dif_pos h]
    have hi : i = (lV.access (lR hj ho)).emb (fun | 0 => ⟨0, Nat.one_pos⟩ | 1 => ⟨(i 1).val - o, by show _ < 16; omega⟩) := by
      funext a; apply Fin.ext
      show _ = ((lR hj ho).emb _ a).val
      fin_cases a
      · simpa [Rect.emb, Rect.unit] using h0
      · show (i 1).val = o + 1 * ((i 1).val - o)
        omega
    conv_lhs => rw [hi]
    rw [putF, View.write_emb_of_mem _ _ (Finset.mem_univ _)]
    refine (cast_eq _ _).trans ?_
    refine (shapeCast_addUnit_apply ![16] w _ _).trans (congrArg w ?_)
    funext a; fin_cases a; rfl
  · rw [dif_neg h, putF, View.write_of_not_mem]
    intro hm
    have hm : i ∈ (lR hj ho).set := (Finset.ext_iff.mp (View.set_slice_whole cc1_scratch1 (lR hj ho)) i).mp hm
    rw [Rect.mem_set_unit] at hm
    exact h (hm 1)

variable [FloatOps F] (d : Dev nD) (L : grid1.Coords)

/-- The list of the gather of chunk `n`: the 64 table rows. -/
abbrev listF {j : Nat} (hj : j < 7) (f : S7x64.Idx → BitVec 32) (w0 w1 w2 w3 : IVec S16 32) : S7x64.Idx → BitVec 32 :=
  putF (F := F) hj (by decide : 48 ≤ 48) (putF (F := F) hj (by decide : 32 ≤ 48) (putF (F := F) hj (by decide : 16 ≤ 48)
    (putF (F := F) hj (by decide : 0 ≤ 48) f w0) w1) w2) w3

theorem listF_word {j : Nat} (hj : j < 7) (f : S7x64.Idx → BitVec 32) (w0 w1 w2 w3 : IVec S16 32) (n : Nat)
    (h0 : ∀ p, (w0 p).toNat = srcRow (64 * n + (0 + (p 0).val))) (h1 : ∀ p, (w1 p).toNat = srcRow (64 * n + (16 + (p 0).val)))
    (h2 : ∀ p, (w2 p).toNat = srcRow (64 * n + (32 + (p 0).val))) (h3 : ∀ p, (w3 p).toNat = srcRow (64 * n + (48 + (p 0).val)))
    (x : S64.Idx) : BitVec.toNat ((lS hj).view.read (Elt F) (listF (F := F) hj f w0 w1 w2 w3) x) = srcRow (64 * n + (x 0).val) := by
  have hx : (x 0).val < 64 := (x 0).isLt
  have e0 : ((lS hj).view.emb x 0).val = j := emb_lS hj x 0
  have e1 : ((lS hj).view.emb x 1).val = (x 0).val := emb_lS hj x 1
  rw [View.read_apply, cast_eq]
  rw [listF, putF_apply (F := F) hj _ _ _ _ e0]
  split_ifs with c3
  · rw [h3]; congr 2
    show 48 + (((lS hj).view.emb x 1).val - 48) = _
    omega
  rw [putF_apply (F := F) hj _ _ _ _ e0]
  split_ifs with c2
  · rw [h2]; congr 2
    show 32 + (((lS hj).view.emb x 1).val - 32) = _
    omega
  rw [putF_apply (F := F) hj _ _ _ _ e0]
  split_ifs with c1
  · rw [h1]; congr 2
    show 16 + (((lS hj).view.emb x 1).val - 16) = _
    omega
  rw [putF_apply (F := F) hj _ _ _ _ e0]
  split_ifs with c0
  · rw [h0]; congr 2
    show 0 + (((lS hj).view.emb x 1).val - 0) = _
    omega
  omega

end Cert.Proof.Sc

end
-- ==== Proof.ScStep.lean ====
/-
  The three steps of a slot, with what each takes and gives: a gather started from a filled list, its completion and the
  start of the store, the wait for the store.
-/
module

public import proofs.«01_k».proof.Proof.ScSlot

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A row index of a list's shape is its own number. -/
theorem rowMajor_S64 (k : Fin S64.numel) : ((S64.rowMajor.symm k) 0).val = k.val := by
  have h : ∀ x : S64.Idx, (S64.rowMajor x).val = (x 0).val := fun x => by
    show (Shape.rowMajorPi S64.size x).val = _
    rw [show (Shape.rowMajorPi S64.size x).val = (x 0).val * _ + _ from Shape.rowMajorPi_succ_val _ _]
    have hl := Fin.isLt ((Shape.rowMajorPi fun a => (![64] : Fin 1 → Nat) a.succ) fun a => x a.succ)
    simp at hl ⊢
    omega
  rw [← h, Equiv.apply_symm_apply]

/-- The slot's contents hold chunk `n` of what the call leaves, made of table `t`. -/
def Holds {j : Nat} (hj : j < 7) (n : Nat) (t : S4096x2x128.Idx → Elt F .f32) (f : S7x64x2x128.Idx → Elt F .f32) : Prop :=
  ∀ (x : S64x2x128.Idx) (y : S30784x2x128.Idx), (y 0).val = 64 * n + (x 0).val → (y 1).val = (x 1).val → (y 2).val = (x 2).val →
    (aS hj).view.read (Elt F) f x = gathered t y

variable [FloatOps F]

theorem holds_gather {j : Nat} (hj : j < 7) (n : Nat) (t : S4096x2x128.Idx → Elt F .f32) (fd : S7x64x2x128.Idx → Elt F .f32)
    (g : S64.Idx → BitVec 32) (hg : ∀ x, (g x).toNat = srcRow (64 * n + (x 0).val)) (hn) (hin) :
    Holds hj n t ((aS hj).view.write (Elt F) fd
      (SparseCore.gatherPayload (F := F) gathers_S4096x2x128_S64x2x128 (tS.view.read (Elt F) t) (SparseCore.rows (F := F) (si := S64) g hn hin)) Finset.univ) := by
  intro x y h0 h1 h2
  rw [View.read_write_univ, SparseCore.gatherPayload, View.read_apply, emb_tS, cast_eq, gathered]
  refine congrArg t (funext fun a => Fin.ext ?_)
  match a with
  | 0 =>
    refine (congrArg Fin.val (Shape.Gathers.idx_axis gathers_S4096x2x128_S64x2x128 _ x)).trans ?_
    show (g (S64.rowMajor.symm _)).toNat = srcRow (y 0).val
    rw [hg, rowMajor_S64, h0]
    rfl
  | 1 => exact (Shape.Gathers.idx_of_ne gathers_S4096x2x128_S64x2x128 _ x 1 (by decide)).trans h1.symm
  | 2 => exact (Shape.Gathers.idx_of_ne gathers_S4096x2x128_S64x2x128 _ x 2 (by decide)).trans h2.symm

theorem holds_store {j : Nat} (hj : j < 7) (n : Nat) (t : S4096x2x128.Idx → Elt F .f32) (f : S7x64x2x128.Idx → Elt F .f32) (hf : Holds hj n t f)
    (h : ∀ a, (![64 * n, 0, 0] : Fin 3 → Nat) a + S64x2x128.size a ≤ S30784x2x128.size a) (g : S30784x2x128.Idx → Elt F .f32) : ∀ i ∈ chunkSet n,
      ((oC ![64 * n, 0, 0] h).view.write (Elt F) g (ReadAs.same.apply ((aS hj).view.read (Elt F) f)) Finset.univ : S30784x2x128.Idx → Elt F .f32) i = gathered t i := by
  intro i hi
  rw [← set_oC n h] at hi
  obtain ⟨x, -, rfl⟩ := Finset.mem_map.mp hi
  rw [View.write_emb_of_mem _ _ (Finset.mem_univ x)]
  refine (cast_eq _ _).trans (hf x _ ?_ ?_ ?_)
  · show 64 * n + 1 * (x 0).val = _; omega
  · show 0 + 1 * (x 1).val = _; omega
  · show 0 + 1 * (x 2).val = _; omega

variable (d : Dev nD) (L : grid1.Coords)

/-- The obligations the tile carries through its waits, and the evidence every wait needs. -/
def Owe (O : CellTallies nD τ sig (HIx 1)) : sProp 𝕄 :=
  iprop(Transfers.MayWaits (th d L) (default : HIx 1) O ∗ ∃ W', owes (th d L) O W')

/-- Slot `j`'s buffers: the list and the rows, at some contents. -/
def Lst {j : Nat} (hj : j < 7) : sProp 𝕄 := iprop(∃ f : Buf (Elt F) ((lS hj).view.loc (th d L)), (lS hj).view.loc (th d L) ↦[(lS hj).view.set]{fullShare} f)
def Buff {j : Nat} (hj : j < 7) : sProp 𝕄 := iprop(∃ f : Buf (Elt F) ((aS hj).view.loc (th d L)), (aS hj).view.loc (th d L) ↦[(aS hj).view.set]{fullShare} f)
/-- A share of the table. -/
def Tab (t : Buf (Elt F) (tLoc d)) (q : PosShare TreeShare) : sProp 𝕄 := iprop(tLoc d ↦[Finset.univ]{q} t)
abbrev gCell {j : Nat} (hj : j < 7) : GSem nD τ sig := (th d L, .dma (gS hj))
abbrev sCell {j : Nat} (hj : j < 7) : GSem nD τ sig := (th d L, .dma (sS hj))
/-- What a slot keeps between its steps. -/
def Base {j : Nat} (hj : j < 7) (t : Buf (Elt F) (tLoc d)) (q : PosShare TreeShare) : sProp 𝕄 :=
  iprop(Lst (F := F) d L hj ∗ Tab d t q ∗ semVal (gCell d L hj) 0)
/-- A gather of chunk `n` under way. -/
def GFl {j : Nat} (hj : j < 7) (t : Buf (Elt F) (tLoc d)) (q : PosShare TreeShare) (n : Nat) : sProp 𝕄 :=
  Transfers.Flight countersEmb (th d L) (.dma (gS hj)) (default : HIx 1) (aS hj).view.dmaCredit
    iprop((∃ f : Buf (Elt F) ((aS hj).view.loc (th d L)), ⌜Holds hj n t f⌝ ∗ (aS hj).view.loc (th d L) ↦[(aS hj).view.set]{fullShare} f)
      ∗ Tab d t q ∗ Lst (F := F) d L hj)
/-- A store of chunk `n` under way. -/
def SFl {j : Nat} (hj : j < 7) (t : Buf (Elt F) (tLoc d)) (n : Nat) : sProp 𝕄 :=
  Transfers.Flight countersEmb (th d L) (.dma (sS hj)) (default : HIx 1) (oW).view.dmaCredit
    iprop((oLoc d ↦[chunkSet n]{fullShare} (gathered t : Buf (Elt F) (oLoc d))) ∗ Buff (F := F) d L hj)

/-- The tile's program `k` run to `Q`. -/
abbrev WPt {α : Type} (k : TP (F := F) L α) (Q : α → sProp 𝕄) : sProp 𝕄 := wp frame (wpE (defs₀ (F := F)) 𝒱₀ (th d L) none) Set.univ k Q

variable {α : Type}

theorem wp_putL (Q : α → sProp 𝕄) {j o : Nat} (hj : j < 7) (ho : o ≤ 48) (w : IVec S16 32) (k : TP (F := F) L α) (f : Buf (Elt F) ((lS hj).view.loc (th d L))) :
    iprop((lS hj).view.loc (th d L) ↦[(lS hj).view.set]{fullShare} f)
      ⊢ iprop((iprop((lS hj).view.loc (th d L) ↦[(lS hj).view.set]{fullShare} (putF (F := F) hj ho f w : Buf (Elt F) ((lS hj).view.loc (th d L)))) -∗ WPt d L k Q)
        -∗ WPt d L (putL L hj ho w k) Q) := by
  iintro H Hk
  iapply (wp_load_rect 𝒱₀ (th d L) none Set.univ (m := lV) (r := lR hj ho) (set_lR hj ho)) $$ H
  iintro H
  iapply (wp_store 𝒱₀ (th d L) none Set.univ (m := lV) (r := lR hj ho) (set_lR hj ho)) $$ H
  iintro H
  iapply Hk $$ H

/-- Start a gather from a list that names chunk `n`'s table rows. -/
theorem wp_issue (Q : α → sProp 𝕄) {j : Nat} (hj : j < 7) (k : TP (F := F) L α) (n : Nat) (t : Buf (Elt F) (tLoc d)) (q : PosShare TreeShare)
    (f : Buf (Elt F) ((lS hj).view.loc (th d L)))
    (hf : ∀ x, BitVec.toNat ((lS hj).view.read (Elt F) f x) = srcRow (64 * n + (x 0).val)) (hn : 64 * n + 64 ≤ 30784) :
    iprop(((lS hj).view.loc (th d L) ↦[(lS hj).view.set]{fullShare} f) ∗ Tab d t q ∗ semVal (gCell d L hj) 0 ∗ Buff (F := F) d L hj)
      ⊢ iprop((GFl d L hj t q n -∗ WPt d L k Q)
        -∗ WPt d L (do
            SparseCore.enqueueIndirectGather rfl tS (aS hj) gathers_S4096x2x128_S64x2x128 (lS hj) rfl (gS hj) (View.wordExact_bits rfl) rfl (Or.inl rfl)
            k) Q) := by
  unfold Tab Buff GFl
  iintro ⟨Hl, Ht, Hg, ⟨%fd, Hd⟩⟩ Hk
  have hin : ∀ x, BitVec.toNat ((lS hj).view.read (Elt F) f x) < S4096x2x128.size gathers_S4096x2x128_S64x2x128.axis := fun x => by
    rw [hf]
    have hx : (x 0).val < 64 := (x 0).isLt
    exact srcRow_lt (by omega)
  iapply (SparseCore.wp_indirectGatherLocal countersEmb 𝒱₀ (th d L) none (src := tS) (dst := aS hj) (hg := gathers_S4096x2x128_S64x2x128) (offs := lS hj)
      (default : HIx 1) (aS hj).view.dmaCredit (SparseCore.sum_rowCredit_eq_dmaCredit (aS hj) _ (fun _ => rfl)) (by decide) hin) $$ [Hl Ht Hg Hd]
  · isplitl [Ht]
    · rw [set_tS]; iexact Ht
    isplitl [Hd]; · iexact Hd
    isplitl [Hl]; · iexact Hl
    iexact Hg
  iintro Hfl
  iapply Hk
  iapply (Transfers.Flight_mono countersEmb (th d L) ?_) $$ Hfl
  iintro ⟨Hd, Ht, Hl⟩
  isplitl [Hd]
  · iexists _
    isplitr
    swap; · iexact Hd
    ipureintro
    exact holds_gather hj n t fd _ hf rfl hin
  isplitl [Ht]
  · rw [set_tS]; unfold Tab; iexact Ht
  unfold Lst
  iexists _; iexact Hl

/-- Finish the gather of chunk `n` and start its store. -/
theorem wp_store' (Q : α → sProp 𝕄) {j : Nat} (hj : j < 7) (c : BitVec 1) (off : Fin 3 → Nat) (hoff) (k : TP (F := F) L α) (n : Nat) (hc : c = 1#1) (ho : off = ![64 * n, 0, 0])
    (t : Buf (Elt F) (tLoc d)) (q : PosShare TreeShare) (g : Buf (Elt F) (oLoc d)) (O : CellTallies nD τ sig (HIx 1)) :
    iprop(GFl d L hj t q n ∗ semVal (sCell d L hj) 0 ∗ (oLoc d ↦[chunkSet n]{fullShare} g) ∗ Owe (F := F) d L O)
      ⊢ iprop((iprop(Base d L hj t q ∗ SFl d L hj t n ∗ Owe (F := F) d L O) -∗ WPt d L k Q) -∗ WPt d L (store L hj c off hoff k) Q) := by
  subst ho
  unfold store
  rw [dif_pos hc]
  unfold GFl Owe
  iintro ⟨Hfl, Hs, Ho, ⟨#Hmw, ⟨%W', HO⟩⟩⟩ Hk
  iapply (Transfers.wp_waitLocalO countersEmb 𝒱₀ (th d L) none (default : HIx 1) (rfl : (aS hj).view.dmaCredit = _)) $$ [Hfl HO]
  · isplitl [Hfl]; · iexact Hfl
    isplitl [HO]; · iexact HO
    iapply (Transfers.MayWaits.elim (SemLoc.dma (gS hj))) $$ Hmw
  iintro ⟨⟨⟨%f, %hf, Hd⟩, Ht, Hl⟩, Hg, HO⟩
  ihave Ho' := (Entails.of_eq (show (oLoc d ↦[chunkSet n]{fullShare} g : sProp 𝕄)
      = ((oC ![64 * n, 0, 0] (hoff hc)).view.loc (th d L) ↦[(oC ![64 * n, 0, 0] (hoff hc)).view.set]{fullShare} g) by rw [set_oC])) $$ Ho
  iapply (Transfers.wp_dmaLocal countersEmb 𝒱₀ (th d L) none (src := aS hj) (via := ReadAs.same) (dst := oC ![64 * n, 0, 0] (hoff hc)) (sm := .dma (sS hj))
      (default : HIx 1) (oW).view.dmaCredit rfl (by decide) (Finset.Subset.refl _)) $$ [Hd Ho' Hs]
  · isplitl [Hd]; · iexact Hd
    isplitl [Ho']; · iexact Ho'
    iexact Hs
  iintro Hfl
  iapply Hk
  isplitl [Hl Ht Hg]
  · unfold Base
    isplitl [Hl]; · iexact Hl
    isplitl [Ht]; · iexact Ht
    iexact Hg
  isplitl [Hfl]
  · unfold SFl
    iapply (Transfers.Flight_mono countersEmb (th d L) ?_) $$ Hfl
    iintro ⟨Ho, Hd⟩
    isplitl [Ho]
    · iapply (Entails.of_eq ?_) $$ Ho
      rw [set_oC]
      exact pointsTo_congr (holds_store hj n t f hf _ g)
    unfold Buff
    iexists _; iexact Hd
  isplitr; · iexact Hmw
  iexists _; iexact HO

/-- Wait for the store of chunk `n`. -/
theorem wp_drain (Q : α → sProp 𝕄) {j : Nat} (hj : j < 7) (c : BitVec 1) (k : TP (F := F) L α) (n : Nat) (hc : c = 1#1)
    (t : Buf (Elt F) (tLoc d)) (O : CellTallies nD τ sig (HIx 1)) :
    iprop(SFl d L hj t n ∗ Owe (F := F) d L O)
      ⊢ iprop((iprop((oLoc d ↦[chunkSet n]{fullShare} (gathered t : Buf (Elt F) (oLoc d))) ∗ Buff (F := F) d L hj ∗ semVal (sCell d L hj) 0 ∗ Owe (F := F) d L O)
          -∗ WPt d L k Q) -∗ WPt d L (drain L hj c k) Q) := by
  unfold drain
  rw [dif_pos hc]
  unfold SFl Owe
  iintro ⟨Hfl, ⟨#Hmw, ⟨%W', HO⟩⟩⟩ Hk
  iapply (Transfers.wp_waitLocalO countersEmb 𝒱₀ (th d L) none (default : HIx 1) (rfl : (oW).view.dmaCredit = _)) $$ [Hfl HO]
  · isplitl [Hfl]; · iexact Hfl
    isplitl [HO]; · iexact HO
    iapply (Transfers.MayWaits.elim (SemLoc.dma (sS hj))) $$ Hmw
  iintro ⟨⟨Ho, Hd⟩, Hg, HO⟩
  iapply Hk
  isplitl [Ho]; · iexact Ho
  isplitl [Hd]; · iexact Hd
  isplitl [Hg]; · iexact Hg
  isplitr; · iexact Hmw
  iexists _; iexact HO

end Cert.Proof.Sc

end
-- ==== Proof.ScTile.lean ====
/-
  A slot over the trips: what it holds before each trip, between its gather and its store, and at the end; and the whole
  tile program, which leaves each of the tile's chunks holding the table rows it copies.
-/
module

public import proofs.«01_k».proof.Proof.ScStep

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords) (t : Buf (Elt F) (tLoc d)) (q : PosShare TreeShare) (g : Buf (Elt F) (oLoc d))

/-- Slot `j`'s chunk of trip `r` at contents `f` (nothing if the tile has no such chunk). -/
abbrev chP (j r : Nat) (f : Buf (Elt F) (oLoc d)) : sProp 𝕄 := iprop(oLoc d ↦[chSet L j r]{fullShare} f)
/-- The chunks of the trips before `r`, filled; those of the trips from `r` on, as they were. -/
def DoneS (j : Nat) : Nat → sProp 𝕄
  | 0 => iprop(emp)
  | r + 1 => iprop(DoneS j r ∗ chP d L j r (gathered t))
def FreshS (j : Nat) : Nat → sProp 𝕄
  | 0 => iprop(chP d L j 0 g ∗ chP d L j 1 g ∗ chP d L j 2 g)
  | 1 => iprop(chP d L j 1 g ∗ chP d L j 2 g)
  | 2 => chP d L j 2 g
  | _ => iprop(emp)
/-- Before trip `r`: the slot free, or the store of the last trip that had a chunk under way. -/
def StS {j : Nat} (hj : j < 7) : Nat → sProp 𝕄
  | 0 => iprop(Buff (F := F) d L hj ∗ semVal (sCell d L hj) 0)
  | r + 1 => if 7 * r + j < nN L then iprop(SFl d L hj t (chN L j r) ∗ DoneS d L t j r) else StS hj r
/-- The slot before trip `r`, and between its gather and its store. -/
def Slot {j : Nat} (hj : j < 7) (r : Nat) : sProp 𝕄 := iprop(Base d L hj t q ∗ StS d L t hj r ∗ FreshS d L g j r)
def SlotMid {j : Nat} (hj : j < 7) (r : Nat) : sProp 𝕄 :=
  if 7 * r + j < nN L then iprop(GFl d L hj t q (chN L j r) ∗ semVal (sCell d L hj) 0 ∗ DoneS d L t j r ∗ FreshS d L g j r) else Slot d L t q g hj r

theorem chSet_act {j r : Nat} (h : 7 * r + j < nN L) : chSet L j r = chunkSet (chN L j r) := if_pos h
theorem chSet_idle {j r : Nat} (h : ¬ 7 * r + j < nN L) : chSet L j r = ∅ := if_neg h

theorem chN_lt {j r : Nat} (h : 7 * r + j < nN L) : 64 * chN L j r + 64 ≤ 30784 := by
  have h0 : (L 0).val < 2 := (L 0).isLt
  have h1 : (L 1).val < 16 := (L 1).isLt
  unfold chN c0N nN wN at *
  split_ifs at h <;> omega

variable {α : Type} (O : CellTallies nD τ sig (HIx 1))

theorem slot_gather (Q : α → sProp 𝕄) {j : Nat} (hj : j < 7) (s : Fin (k1_t1_loop L).trips) (r : Nat) (hr : s.val = r) (v : BitVec 32) (hv : v = BitVec.ofNat 32 j)
    (k : TP (F := F) L α) :
    iprop(Slot d L t q g hj r ∗ Owe (F := F) d L O)
      ⊢ iprop((iprop(SlotMid d L t q g hj r ∗ Owe (F := F) d L O) -∗ WPt d L k Q)
          -∗ WPt d L (gather L hj (nV L) (fV L) lanes (tripV s) (chunkV s v) k) Q) := by
  subst hr hv
  by_cases hact : 7 * s.val + j < nN L
  swap
  · have hc : ¬ bit (Scalar.cmpi .slt (chunkV s (BitVec.ofNat 32 j)) (nV L)) = 1#1 := fun h => hact ((act_gather L s ⟨j, hj⟩).mp h)
    unfold gather SlotMid
    rw [dif_neg hc, if_neg hact]
    iintro H Hk
    iapply Hk $$ H
  have hc : bit (Scalar.cmpi .slt (chunkV s (BitVec.ofNat 32 j)) (nV L)) = 1#1 := (act_gather L s ⟨j, hj⟩).mpr hact
  have hw := fun qq p => idx_word L s ⟨j, hj⟩ qq p hact
  have rest : ∀ k : TP (F := F) L α, iprop(Base d L hj t q ∗ Buff (F := F) d L hj)
      ⊢ iprop((GFl d L hj t q (chN L j s) -∗ WPt d L k Q)
        -∗ WPt d L (putL L hj (by decide : 0 ≤ 48) (idxV (fV L) lanes (chunkV s (BitVec.ofNat 32 j)) 0#32) <|
            putL L hj (by decide : 16 ≤ 48) (idxV (fV L) lanes (chunkV s (BitVec.ofNat 32 j)) 2#32) <|
            putL L hj (by decide : 32 ≤ 48) (idxV (fV L) lanes (chunkV s (BitVec.ofNat 32 j)) 4#32) <|
            putL L hj (by decide : 48 ≤ 48) (idxV (fV L) lanes (chunkV s (BitVec.ofNat 32 j)) 6#32) <| do
            SparseCore.enqueueIndirectGather rfl tS (aS hj) gathers_S4096x2x128_S64x2x128 (lS hj) rfl (gS hj) (View.wordExact_bits rfl) rfl (Or.inl rfl)
            k) Q) := by
    intro k
    unfold Base
    rw [show (Lst (F := F) d L hj : sProp 𝕄) = iprop(∃ f : Buf (Elt F) ((lS hj).view.loc (th d L)), (lS hj).view.loc (th d L) ↦[(lS hj).view.set]{fullShare} f) from rfl]
    iintro ⟨⟨⟨%f, Hl⟩, Ht, Hg⟩, Hb⟩ Hk
    iapply (wp_putL d L Q hj _ (idxV (fV L) lanes (chunkV s (BitVec.ofNat 32 j)) 0#32) _ f) $$ Hl
    iintro Hl
    iapply (wp_putL d L Q hj _ (idxV (fV L) lanes (chunkV s (BitVec.ofNat 32 j)) 2#32) _ _) $$ Hl
    iintro Hl
    iapply (wp_putL d L Q hj _ (idxV (fV L) lanes (chunkV s (BitVec.ofNat 32 j)) 4#32) _ _) $$ Hl
    iintro Hl
    iapply (wp_putL d L Q hj _ (idxV (fV L) lanes (chunkV s (BitVec.ofNat 32 j)) 6#32) _ _) $$ Hl
    iintro Hl
    iapply (wp_issue d L Q hj k (chN L j s) t q _
      (listF_word hj f _ _ _ _ (chN L j s) (hw 0) (hw 1) (hw 2) (hw 3)) (chN_lt L hact)) $$ [Hl Ht Hg Hb]
    · isplitl [Hl]; · iexact Hl
      isplitl [Ht]; · iexact Ht
      isplitl [Hg]; · iexact Hg
      iexact Hb
    iexact Hk
  unfold gather SlotMid Slot
  rw [dif_pos hc, if_pos hact]
  rcases Nat.eq_zero_or_pos s.val with h0 | h0
  · have hd : ¬ bit (Scalar.cmpi .sge (tripV s) 1#32) = 1#1 := fun h => by have := (act_drain L s).mp h; omega
    have e1 : (StS d L t hj s.val : sProp 𝕄) = iprop(Buff (F := F) d L hj ∗ semVal (sCell d L hj) 0) := by rw [h0]; rfl
    have e2 : (DoneS d L t j s.val : sProp 𝕄) = iprop(emp) := by rw [h0]; rfl
    unfold drain
    rw [dif_neg hd, e1, e2]
    iintro ⟨⟨HB, ⟨Hb, Hs⟩, Hf⟩, HO⟩ Hk
    iapply (rest k) $$ [HB Hb]
    · isplitl [HB]; · iexact HB
      iexact Hb
    iintro Hg
    iapply Hk
    isplitr [HO]
    swap; · iexact HO
    isplitl [Hg]; · iexact Hg
    isplitl [Hs]; · iexact Hs
    isplitr [Hf]; · iempintro
    iexact Hf
  · have hd : bit (Scalar.cmpi .sge (tripV s) 1#32) = 1#1 := (act_drain L s).mpr h0
    obtain ⟨r', hr'⟩ : ∃ r', s.val = r' + 1 := ⟨s.val - 1, by omega⟩
    have hp : 7 * r' + j < nN L := by omega
    have e1 : (StS d L t hj s.val : sProp 𝕄) = iprop(SFl d L hj t (chN L j r') ∗ DoneS d L t j r') := by
      rw [hr']
      exact if_pos hp
    have e2 : (DoneS d L t j s.val : sProp 𝕄) = iprop(DoneS d L t j r' ∗ oLoc d ↦[chunkSet (chN L j r')]{fullShare} (gathered t : Buf (Elt F) (oLoc d))) := by
      rw [← chSet_act L hp, hr']
      rfl
    rw [e1, e2]
    iintro ⟨⟨HB, ⟨Hfl, Hd⟩, Hf⟩, HO⟩ Hk
    iapply (wp_drain d L Q hj _ _ _ hd t O) $$ [Hfl HO]
    · isplitl [Hfl]; · iexact Hfl
      iexact HO
    iintro ⟨Ho, Hb, Hs, HO⟩
    iapply (rest k) $$ [HB Hb]
    · isplitl [HB]; · iexact HB
      iexact Hb
    iintro Hg
    iapply Hk
    isplitr [HO]
    swap; · iexact HO
    isplitl [Hg]; · iexact Hg
    isplitl [Hs]; · iexact Hs
    isplitr [Hf]
    · isplitl [Hd]; · iexact Hd
      iexact Ho
    iexact Hf

theorem FreshS_step (j : Nat) {r : Nat} (hr : r < 3) : (FreshS d L g j r : sProp 𝕄) ⊢ iprop(chP d L j r g ∗ FreshS d L g j (r + 1)) := by
  match r, hr with
  | 0, _ => exact Entails.refl _
  | 1, _ => exact Entails.refl _
  | 2, _ =>
    unfold FreshS
    iintro H
    isplitl [H]; · iexact H
    iempintro

theorem slot_store (Q : α → sProp 𝕄) {j : Nat} (hj : j < 7) (r : Nat) (hr : r < 3) (c : BitVec 1) (off : Fin 3 → Nat) (hoff)
    (hc : c = 1#1 ↔ 7 * r + j < nN L) (ho : off = ![64 * chN L j r, 0, 0]) (k : TP (F := F) L α) :
    iprop(SlotMid d L t q g hj r ∗ Owe (F := F) d L O)
      ⊢ iprop((iprop(Slot d L t q g hj (r + 1) ∗ Owe (F := F) d L O) -∗ WPt d L k Q)
          -∗ WPt d L (store L hj c off hoff k) Q) := by
  by_cases hact : 7 * r + j < nN L
  · unfold SlotMid Slot
    rw [if_pos hact, show (StS d L t hj (r + 1) : sProp 𝕄) = iprop(SFl d L hj t (chN L j r) ∗ DoneS d L t j r) from if_pos hact]
    iintro ⟨⟨Hg, Hs, Hd, Hf⟩, HO⟩ Hk
    ihave Hf2 := (FreshS_step d L g j hr) $$ Hf
    icases Hf2 with ⟨Hc, Hf⟩
    ihave Hc' := (Entails.of_eq (show (chP d L j r g : sProp 𝕄) = iprop(oLoc d ↦[chunkSet (chN L j r)]{fullShare} g) by rw [chP, chSet_act L hact])) $$ Hc
    iapply (wp_store' d L Q hj c off hoff k (chN L j r) (hc.mpr hact) ho t q g O) $$ [Hg Hs Hc' HO]
    · isplitl [Hg]; · iexact Hg
      isplitl [Hs]; · iexact Hs
      isplitl [Hc']; · iexact Hc'
      iexact HO
    iintro ⟨HB, Hfl, HO⟩
    iapply Hk
    isplitr [HO]
    swap; · iexact HO
    isplitl [HB]; · iexact HB
    isplitr [Hf]
    · isplitl [Hfl]; · iexact Hfl
      iexact Hd
    iexact Hf
  · have hc' : ¬ c = 1#1 := fun h => hact (hc.mp h)
    unfold store SlotMid Slot
    rw [dif_neg hc', if_neg hact, show (StS d L t hj (r + 1) : sProp 𝕄) = StS d L t hj r from if_neg hact]
    iintro ⟨⟨HB, Hs, Hf⟩, HO⟩ Hk
    ihave Hf2 := (FreshS_step d L g j hr) $$ Hf
    icases Hf2 with ⟨Hc, Hf⟩
    ihave Hc' := (Entails.of_eq (show (chP d L j r g : sProp 𝕄) = iprop(emp) by rw [chP, chSet_idle L hact, pointsTo_empty])) $$ Hc
    iclear Hc'
    iapply Hk
    isplitr [HO]
    swap; · iexact HO
    isplitl [HB]; · iexact HB
    isplitl [Hs]; · iexact Hs
    iexact Hf

/-- After the last trip a store is under way, of the last chunk the slot had. -/
theorem StS_last {j : Nat} (hj : j < 7) : ∃ n, (iprop(StS d L t hj 3) ⊢ (iprop(SFl d L hj t n
    ∗ ((oLoc d ↦[chunkSet n]{fullShare} (gathered t : Buf (Elt F) (oLoc d))) -∗ DoneS d L t j 3)) : sProp 𝕄)) := by
  have hN : 15 ≤ nN L := by unfold nN; split <;> omega
  by_cases hact : 7 * 2 + j < nN L
  · refine ⟨chN L j 2, ?_⟩
    rw [show (StS d L t hj 3 : sProp 𝕄) = iprop(SFl d L hj t (chN L j 2) ∗ DoneS d L t j 2) from if_pos hact,
      show (DoneS d L t j 3 : sProp 𝕄) = iprop(DoneS d L t j 2 ∗ chP d L j 2 (gathered t)) from rfl, chP, chSet_act L hact]
    iintro ⟨Hfl, Hd⟩
    isplitl [Hfl]; · iexact Hfl
    iintro Ho
    isplitl [Hd]; · iexact Hd
    iexact Ho
  · refine ⟨chN L j 1, ?_⟩
    have hp : 7 * 1 + j < nN L := by omega
    rw [show (StS d L t hj 3 : sProp 𝕄) = StS d L t hj 2 from if_neg hact,
      show (StS d L t hj 2 : sProp 𝕄) = iprop(SFl d L hj t (chN L j 1) ∗ DoneS d L t j 1) from if_pos hp,
      show (DoneS d L t j 3 : sProp 𝕄) = iprop((DoneS d L t j 1 ∗ chP d L j 1 (gathered t)) ∗ chP d L j 2 (gathered t)) from rfl,
      chP, chP, chSet_act L hp, chSet_idle L hact, pointsTo_empty]
    iintro ⟨Hfl, Hd⟩
    isplitl [Hfl]; · iexact Hfl
    iintro Ho
    isplitl [Hd Ho]
    · isplitl [Hd]; · iexact Hd
      iexact Ho
    iempintro

/-- A slot at rest, its chunks filled. -/
def SlotEnd {j : Nat} (hj : j < 7) : sProp 𝕄 := iprop(Base d L hj t q ∗ Buff (F := F) d L hj ∗ semVal (sCell d L hj) 0 ∗ DoneS d L t j 3)

theorem slot_drain (Q : α → sProp 𝕄) {j : Nat} (hj : j < 7) (v : BitVec 32) (hv : v = BitVec.ofNat 32 j) (k : TP (F := F) L α) :
    iprop(Slot d L t q g hj 3 ∗ Owe (F := F) d L O)
      ⊢ iprop((iprop(SlotEnd d L t q hj ∗ Owe (F := F) d L O) -∗ WPt d L k Q)
          -∗ WPt d L (drain L hj (bit (Scalar.cmpi .sgt (nV L) v)) k) Q) := by
  subst hv
  obtain ⟨n, hn⟩ := StS_last d L t hj
  unfold Slot SlotEnd
  iintro ⟨⟨HB, Hs, Hf⟩, HO⟩ Hk
  ihave Hs' := hn $$ Hs
  icases Hs' with ⟨Hfl, Hd⟩
  iapply (wp_drain d L Q hj _ _ n (act_last L ⟨j, hj⟩) t O) $$ [Hfl HO]
  · isplitl [Hfl]; · iexact Hfl
    iexact HO
  iintro ⟨Ho, Hb, Hs, HO⟩
  ihave Hd' := Hd $$ Ho
  iapply Hk
  isplitr [HO]
  swap; · iexact HO
  isplitl [HB]; · iexact HB
  isplitl [Hb]; · iexact Hb
  isplitl [Hs]; · iexact Hs
  iexact Hd'

end Cert.Proof.Sc

end
-- ==== Proof.ScRun.lean ====
/-
  The tile program run: the seven slots through the trips and the drains.
-/
module

public import proofs.«01_k».proof.Proof.ScTile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 1600000

theorem h0 : 0 < 7 := by decide
theorem h1 : 1 < 7 := by decide
theorem h2 : 2 < 7 := by decide
theorem h3 : 3 < 7 := by decide
theorem h4 : 4 < 7 := by decide
theorem h5 : 5 < 7 := by decide
theorem h6 : 6 < 7 := by decide

/-- One assertion per slot, separately. -/
def seven (P : ∀ {j : Nat}, j < 7 → sProp 𝕄) : sProp 𝕄 := iprop(P h0 ∗ P h1 ∗ P h2 ∗ P h3 ∗ P h4 ∗ P h5 ∗ P h6)

variable [FloatOps F] (d : Dev nD) (L : grid1.Coords) (t : Buf (Elt F) (tLoc d)) (q : Nat → PosShare TreeShare) (g : Buf (Elt F) (oLoc d))
  (O : CellTallies nD τ sig (HIx 1))

/-- The seven slots before trip `r`, and the tile's obligations. -/
def Slots (r : Nat) : sProp 𝕄 := iprop(seven (F := F) (fun {j} hj => Slot d L t (q j) g hj r) ∗ Owe (F := F) d L O)

theorem wpt_pure {α : Type} (a : α) (Q : α → sProp 𝕄) : Q a ⊢ WPt d L (pure a) Q := by
  show _ ⊢ wp frame (wpE (defs₀ (F := F)) 𝒱₀ (th d L) none) Set.univ (pure a) Q
  rw [wp_pure]
  iintro H
  imodintro
  iexact H

theorem wp_trip15 (s : Fin (k1_t1_loop L).trips) (r : Nat) (hr : s.val = r) :
    (Slots d L t q g O r : sProp 𝕄) ⊢ WPt d L (trip15 (F := F) L s) fun _ =>
      iprop((Slot d L t (q 0) g h0 (r + 1) ∗ SlotMid d L t (q 1) g h1 r ∗ SlotMid d L t (q 2) g h2 r ∗ SlotMid d L t (q 3) g h3 r
        ∗ SlotMid d L t (q 4) g h4 r ∗ SlotMid d L t (q 5) g h5 r ∗ SlotMid d L t (q 6) g h6 r) ∗ Owe (F := F) d L O) := by
  have hr3 : r < 3 := by rw [← hr]; exact lt_of_lt_of_eq s.isLt (trips3 L)
  unfold Slots seven trip15
  iintro ⟨⟨H0, H1, H2, H3, H4, H5, H6⟩, HO⟩
  iapply (slot_gather d L t (q 0) g O _ h0 s r hr 0#32 rfl _) $$ [H0 HO]
  · isplitl [H0] <;> iassumption
  iintro ⟨H0, HO⟩
  iapply (slot_gather d L t (q 1) g O _ h1 s r hr 1#32 rfl _) $$ [H1 HO]
  · isplitl [H1] <;> iassumption
  iintro ⟨H1, HO⟩
  iapply (slot_gather d L t (q 2) g O _ h2 s r hr 2#32 rfl _) $$ [H2 HO]
  · isplitl [H2] <;> iassumption
  iintro ⟨H2, HO⟩
  iapply (slot_gather d L t (q 3) g O _ h3 s r hr 3#32 rfl _) $$ [H3 HO]
  · isplitl [H3] <;> iassumption
  iintro ⟨H3, HO⟩
  iapply (slot_gather d L t (q 4) g O _ h4 s r hr 4#32 rfl _) $$ [H4 HO]
  · isplitl [H4] <;> iassumption
  iintro ⟨H4, HO⟩
  iapply (slot_gather d L t (q 5) g O _ h5 s r hr 5#32 rfl _) $$ [H5 HO]
  · isplitl [H5] <;> iassumption
  iintro ⟨H5, HO⟩
  iapply (slot_gather d L t (q 6) g O _ h6 s r hr 6#32 rfl _) $$ [H6 HO]
  · isplitl [H6] <;> iassumption
  iintro ⟨H6, HO⟩
  iapply (slot_store d L t (q 0) g O _ h0 r hr3 (k1_cond15 L s) (k1_off1 L s) (k1_off1_inb L s) (hr ▸ act_store0 L s) (hr ▸ off_store0 L s) _) $$ [H0 HO]
  · isplitl [H0] <;> iassumption
  iintro ⟨H0, HO⟩
  iapply (wpt_pure d L)
  isplitr [HO]
  swap; · iexact HO
  isplitl [H0]; · iexact H0
  isplitl [H1]; · iexact H1
  isplitl [H2]; · iexact H2
  isplitl [H3]; · iexact H3
  isplitl [H4]; · iexact H4
  isplitl [H5]; · iexact H5
  iexact H6

theorem wp_trip (s : Fin (k1_t1_loop L).trips) (r : Nat) (hr : s.val = r) :
    (Slots d L t q g O r : sProp 𝕄) ⊢ WPt d L (trip (F := F) L s) fun _ => Slots d L t q g O (r + 1) := by
  have hr3 : r < 3 := by rw [← hr]; exact lt_of_lt_of_eq s.isLt (trips3 L)
  unfold trip
  rw [WPt, wp_bind]
  iintro H
  iapply (Idealize.SL.Sem.wp_wand_r)
  isplitl [H]
  · iapply (wp_trip15 d L t q g O s r hr) $$ H
  iintro %x ⟨⟨H0, H1, H2, H3, H4, H5, H6⟩, HO⟩
  iapply (slot_store d L t (q 1) g O _ h1 r hr3 (k1_cond16 L s) (k1_off2 L s) (k1_off2_inb L s) (hr ▸ act_store1 L s) (hr ▸ off_store1 L s) _) $$ [H1 HO]
  · isplitl [H1] <;> iassumption
  iintro ⟨H1, HO⟩
  iapply (slot_store d L t (q 2) g O _ h2 r hr3 (k1_cond17 L s) (k1_off3 L s) (k1_off3_inb L s) (hr ▸ act_store2 L s) (hr ▸ off_store2 L s) _) $$ [H2 HO]
  · isplitl [H2] <;> iassumption
  iintro ⟨H2, HO⟩
  iapply (slot_store d L t (q 3) g O _ h3 r hr3 (k1_cond18 L s) (k1_off4 L s) (k1_off4_inb L s) (hr ▸ act_store3 L s) (hr ▸ off_store3 L s) _) $$ [H3 HO]
  · isplitl [H3] <;> iassumption
  iintro ⟨H3, HO⟩
  iapply (slot_store d L t (q 4) g O _ h4 r hr3 (k1_cond19 L s) (k1_off5 L s) (k1_off5_inb L s) (hr ▸ act_store4 L s) (hr ▸ off_store4 L s) _) $$ [H4 HO]
  · isplitl [H4] <;> iassumption
  iintro ⟨H4, HO⟩
  iapply (slot_store d L t (q 5) g O _ h5 r hr3 (k1_cond20 L s) (k1_off6 L s) (k1_off6_inb L s) (hr ▸ act_store5 L s) (hr ▸ off_store5 L s) _) $$ [H5 HO]
  · isplitl [H5] <;> iassumption
  iintro ⟨H5, HO⟩
  iapply (slot_store d L t (q 6) g O _ h6 r hr3 (k1_cond21 L s) (k1_off7 L s) (k1_off7_inb L s) (hr ▸ act_store6 L s) (hr ▸ off_store6 L s) _) $$ [H6 HO]
  · isplitl [H6] <;> iassumption
  iintro ⟨H6, HO⟩
  iapply (wpt_pure d L)
  unfold Slots seven
  isplitr [HO]
  swap; · iexact HO
  isplitl [H0]; · iexact H0
  isplitl [H1]; · iexact H1
  isplitl [H2]; · iexact H2
  isplitl [H3]; · iexact H3
  isplitl [H4]; · iexact H4
  isplitl [H5]; · iexact H5
  iexact H6

/-- The whole tile program: from the slots free and the chunks at any contents to the slots free and the chunks filled. -/
theorem wp_tile :
    (Slots d L t q g O 0 : sProp 𝕄) ⊢ WPt d L (tile (F := F) L) fun _ =>
      iprop(seven (F := F) (fun {j} hj => SlotEnd d L t (q j) hj) ∗ Owe (F := F) d L O) := by
  unfold tile
  iintro H
  iapply (Scf.wp_for_bind frame (wpE (defs₀ (F := F)) 𝒱₀ (th d L) none) Set.univ (k1_t1_loop L).lb (k1_t1_loop L).ub (k1_t1_loop L).st (k1_t1_ok L) ⟨⟩
    (fun s _ => trip (F := F) L s) (fun r _ => Slots d L t q g O r) (fun s _ => wp_trip d L t q g O s s.val rfl)) $$ H
  iintro %_ H
  ihave H' := (Entails.of_eq (show (Slots d L t q g O (Scf.trips (k1_t1_loop L).lb (k1_t1_loop L).ub (k1_t1_loop L).st) : sProp 𝕄) = Slots d L t q g O 3 from
    congrArg _ (trips3 L))) $$ H
  unfold Slots seven
  icases H' with ⟨⟨H0, H1, H2, H3, H4, H5, H6⟩, HO⟩
  iapply (slot_drain d L t (q 0) g O _ h0 0#32 rfl _) $$ [H0 HO]
  · isplitl [H0] <;> iassumption
  iintro ⟨H0, HO⟩
  iapply (slot_drain d L t (q 1) g O _ h1 1#32 rfl _) $$ [H1 HO]
  · isplitl [H1] <;> iassumption
  iintro ⟨H1, HO⟩
  iapply (slot_drain d L t (q 2) g O _ h2 2#32 rfl _) $$ [H2 HO]
  · isplitl [H2] <;> iassumption
  iintro ⟨H2, HO⟩
  iapply (slot_drain d L t (q 3) g O _ h3 3#32 rfl _) $$ [H3 HO]
  · isplitl [H3] <;> iassumption
  iintro ⟨H3, HO⟩
  iapply (slot_drain d L t (q 4) g O _ h4 4#32 rfl _) $$ [H4 HO]
  · isplitl [H4] <;> iassumption
  iintro ⟨H4, HO⟩
  iapply (slot_drain d L t (q 5) g O _ h5 5#32 rfl _) $$ [H5 HO]
  · isplitl [H5] <;> iassumption
  iintro ⟨H5, HO⟩
  iapply (slot_drain d L t (q 6) g O _ h6 6#32 rfl _) $$ [H6 HO]
  · isplitl [H6] <;> iassumption
  iintro ⟨H6, HO⟩
  iapply (wpt_pure d L)
  isplitr [HO]
  swap; · iexact HO
  isplitl [H0]; · iexact H0
  isplitl [H1]; · iexact H1
  isplitl [H2]; · iexact H2
  isplitl [H3]; · iexact H3
  isplitl [H4]; · iexact H4
  isplitl [H5]; · iexact H5
  iexact H6

end Cert.Proof.Sc

end
-- ==== Proof.ScPieces.lean ====
/-
  Who has what: the output array over the SparseCores, their tiles and the tiles' chunks; the tile's buffers and semaphores
  over its seven slots; a tile's resources as the slots take them, and as they give them back.
-/
module

public import proofs.«01_k».proof.Proof.ScRun

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ### The output array -/

/-- The tile (numbered over both SparseCores) that copies chunk `n`. -/
def wOf (n : Nat) : Nat := if n < 16 then 0 else (n - 1) / 15

/-- The rows tile `L` copies; those a SparseCore's tiles copy. -/
def tileSet (L : grid1.Coords) : Finset S30784x2x128.Idx := Finset.univ.filter fun x => wOf ((x 0).val / 64) = wN L
def coreSet (c : Fin 2) : Finset S30784x2x128.Idx := Finset.univ.filter fun x => wOf ((x 0).val / 64) % 2 = c.val

def coordsV (c : Fin (grid1.bound 0)) (s : Fin (grid1.bound 1)) : grid1.Coords :=
  fun | 0 => c | 1 => s | ⟨_ + 2, h⟩ => absurd h (Nat.not_lt.2 (Nat.le_add_left _ _))

theorem wN_coordsV (c : Fin 2) (s : Fin 16) : wN (coordsV c s) = 2 * s.val + c.val := rfl

theorem mem_chSet {L : grid1.Coords} {j r : Nat} {x : S30784x2x128.Idx} :
    x ∈ chSet L j r ↔ 7 * r + j < nN L ∧ (x 0).val / 64 = c0N L + (7 * r + j) := by
  unfold chSet
  split_ifs with h
  · simp only [chunkSet, Finset.mem_filter, Finset.mem_univ, true_and, chN, h]
    omega
  · simp [h]

theorem chunks_cover (L : grid1.Coords) : (Finset.univ : Finset (Fin 7 × Fin 3)).biUnion (fun p => chSet L p.1.val p.2.val) = tileSet L := by
  have hL0 : (L 0).val < 2 := (L 0).isLt
  have hL1 : (L 1).val < 16 := (L 1).isLt
  ext x
  have hx : (x 0).val < 30784 := (x 0).isLt
  simp only [Finset.mem_biUnion, Finset.mem_univ, true_and, mem_chSet, tileSet, Finset.mem_filter]
  constructor
  · rintro ⟨p, h1, h2⟩
    unfold nN at h1
    unfold c0N at h2
    unfold wOf
    have := p.1.isLt
    have := p.2.isLt
    generalize wN L = w at *
    split_ifs at * <;> omega
  · intro h
    have hw : wN L < 32 := by unfold wN; omega
    have hk : c0N L ≤ (x 0).val / 64 ∧ (x 0).val / 64 < c0N L + nN L := by
      unfold wOf at h
      unfold c0N nN
      generalize wN L = w at *
      split_ifs at * <;> omega
    have hn : nN L ≤ 16 := by unfold nN; split_ifs <;> omega
    refine ⟨(⟨((x 0).val / 64 - c0N L) % 7, Nat.mod_lt _ (by decide)⟩, ⟨((x 0).val / 64 - c0N L) / 7, by omega⟩), ?_, ?_⟩ <;> simp only <;> omega

theorem chunks_disjoint (L : grid1.Coords) : ∀ p ∈ (Finset.univ : Finset (Fin 7 × Fin 3)), ∀ p' ∈ (Finset.univ : Finset (Fin 7 × Fin 3)), p ≠ p' →
    Disjoint (chSet L p.1.val p.2.val) (chSet L p'.1.val p'.2.val) := by
  intro p _ p' _ hne
  refine Finset.disjoint_left.mpr fun x h h' => hne ?_
  have h1 := (mem_chSet.mp h).2
  have h2 := (mem_chSet.mp h').2
  have := p.1.isLt
  have := p'.1.isLt
  exact Prod.ext (Fin.ext (by omega)) (Fin.ext (by omega))

theorem tiles_cover (c : Fin 2) : (Finset.univ : Finset (Fin 16)).biUnion (fun i => tileSet (coordsV c i)) = coreSet c := by
  ext x
  have hx : (x 0).val < 30784 := (x 0).isLt
  have hc := c.isLt
  simp only [Finset.mem_biUnion, Finset.mem_univ, true_and, tileSet, coreSet, Finset.mem_filter]
  constructor
  · rintro ⟨i, h⟩
    have hi := wN_coordsV c i
    omega
  · intro h
    have hw : wOf ((x 0).val / 64) < 32 := by unfold wOf; split_ifs <;> omega
    refine ⟨⟨wOf ((x 0).val / 64) / 2, by omega⟩, ?_⟩
    have hi := wN_coordsV c ⟨wOf ((x 0).val / 64) / 2, by omega⟩
    simp only at hi
    omega
theorem tiles_disjoint (c : Fin 2) : ∀ i ∈ (Finset.univ : Finset (Fin 16)), ∀ j ∈ (Finset.univ : Finset (Fin 16)), i ≠ j →
    Disjoint (tileSet (coordsV c i)) (tileSet (coordsV c j)) := by
  intro i _ j _ hne
  refine Finset.disjoint_left.mpr fun x h h' => hne (Fin.ext ?_)
  have h1 := (Finset.mem_filter.mp h).2
  have h2 := (Finset.mem_filter.mp h').2
  rw [wN_coordsV] at h1 h2
  omega
theorem cores_cover : (Finset.univ : Finset (Fin 2)).biUnion coreSet = Finset.univ := by
  ext x
  simp only [Finset.mem_biUnion, Finset.mem_univ, true_and, coreSet, Finset.mem_filter, iff_true]
  exact ⟨⟨wOf ((x 0).val / 64) % 2, Nat.mod_lt _ (by decide)⟩, rfl⟩
theorem cores_disjoint : ∀ i ∈ (Finset.univ : Finset (Fin 2)), ∀ j ∈ (Finset.univ : Finset (Fin 2)), i ≠ j → Disjoint (coreSet i) (coreSet j) := by
  intro i _ j _ hne
  refine Finset.disjoint_left.mpr fun x h h' => hne (Fin.ext ?_)
  exact (Finset.mem_filter.mp h).2.symm.trans (Finset.mem_filter.mp h').2

/-! ### Seven slots -/

theorem seven_eq (P : ∀ {j : Nat}, j < 7 → sProp 𝕄) : seven (F := F) P = bigSep Finset.univ fun j : Fin 7 => P j.isLt := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

variable (d : Dev nD) (L : grid1.Coords)

/-- A tile's rows are its slots' chunks, trip by trip. -/
theorem tile_chunks (f : Buf (Elt F) (oLoc d)) :
    (oLoc d ↦[tileSet L]{fullShare} f : sProp 𝕄) = bigSep Finset.univ fun j : Fin 7 => iprop(chP d L j 0 f ∗ chP d L j 1 f ∗ chP d L j 2 f) := by
  rw [← chunks_cover, pointsTo_biUnion Finset.univ (ℓ := oLoc d) _ (chunks_disjoint L), bigSep_univ_prod]
  refine bigSep_congr fun j _ => ?_
  rw [show (Finset.univ : Finset (Fin 3)) = {0, 1, 2} by decide,
    SparseCore.bigSep_insert' (by decide), SparseCore.bigSep_insert' (by decide), bigSep_singleton]
  rfl

/-! A buffer whose leading axis is the slots, over the slots; and back, each slot's part at contents of its own. -/

def bSet (j : Fin 7) : Finset S7x64x2x128.Idx := Finset.univ.filter fun x => (x 0).val = j.val
def lSet (j : Fin 7) : Finset S7x64.Idx := Finset.univ.filter fun x => (x 0).val = j.val
theorem bSet_cover : Finset.univ.biUnion bSet = Finset.univ :=
  Finset.eq_univ_iff_forall.mpr fun x => Finset.mem_biUnion.mpr ⟨⟨(x 0).val, (x 0).isLt⟩, Finset.mem_univ _, Finset.mem_filter.mpr ⟨Finset.mem_univ _, rfl⟩⟩
theorem lSet_cover : Finset.univ.biUnion lSet = Finset.univ :=
  Finset.eq_univ_iff_forall.mpr fun x => Finset.mem_biUnion.mpr ⟨⟨(x 0).val, (x 0).isLt⟩, Finset.mem_univ _, Finset.mem_filter.mpr ⟨Finset.mem_univ _, rfl⟩⟩
theorem bSet_disjoint : ∀ i ∈ (Finset.univ : Finset (Fin 7)), ∀ j ∈ (Finset.univ : Finset (Fin 7)), i ≠ j → Disjoint (bSet i) (bSet j) :=
  fun _ _ _ _ hne => Finset.disjoint_left.mpr fun _ h h' => hne (Fin.ext ((Finset.mem_filter.mp h).2.symm.trans (Finset.mem_filter.mp h').2))
theorem lSet_disjoint : ∀ i ∈ (Finset.univ : Finset (Fin 7)), ∀ j ∈ (Finset.univ : Finset (Fin 7)), i ≠ j → Disjoint (lSet i) (lSet j) :=
  fun _ _ _ _ hne => Finset.disjoint_left.mpr fun _ h h' => hne (Fin.ext ((Finset.mem_filter.mp h).2.symm.trans (Finset.mem_filter.mp h').2))

abbrev bLoc : Loc nD τ sig := (th d L).loc cc1_scratch0
abbrev iLoc : Loc nD τ sig := (th d L).loc cc1_scratch1

theorem buff_eq (j : Fin 7) : (Buff (F := F) d L j.isLt : sProp 𝕄) = iprop(∃ f : Buf (Elt F) (bLoc d L), bLoc d L ↦[bSet j]{fullShare} f) := by
  unfold Buff
  rw [set_aS]
  rfl
theorem lst_eq (j : Fin 7) : (Lst (F := F) d L j.isLt : sProp 𝕄) = iprop(∃ f : Buf (Elt F) (iLoc d L), iLoc d L ↦[lSet j]{fullShare} f) := by
  unfold Lst
  rw [set_lS]
  rfl

theorem buff_split : iprop(∃ f : Buf (Elt F) (bLoc d L), bLoc d L ↦{fullShare} f) ⊢ (bigSep Finset.univ fun j : Fin 7 => Buff (F := F) d L j.isLt : sProp 𝕄) := by
  iintro ⟨%f, H⟩
  ihave H := (Entails.of_eq (show (bLoc d L ↦{fullShare} f : sProp 𝕄) = bigSep Finset.univ fun j : Fin 7 => bLoc d L ↦[bSet j]{fullShare} f by
    rw [← pointsTo_biUnion Finset.univ (ℓ := bLoc d L) bSet bSet_disjoint, bSet_cover])) $$ H
  iapply (show (bigSep Finset.univ fun j : Fin 7 => iprop(bLoc d L ↦[bSet j]{fullShare} f) : sProp 𝕄) ⊢ bigSep Finset.univ fun j : Fin 7 => Buff (F := F) d L j.isLt from bigSep_mono (fun j _ => (show (bLoc d L ↦[bSet j]{fullShare} f : sProp 𝕄) ⊢ Buff (F := F) d L j.isLt by
    rw [buff_eq]
    iintro H
    iexists f
    iexact H))) $$ H
theorem lst_split : iprop(∃ f : Buf (Elt F) (iLoc d L), iLoc d L ↦{fullShare} f) ⊢ (bigSep Finset.univ fun j : Fin 7 => Lst (F := F) d L j.isLt : sProp 𝕄) := by
  iintro ⟨%f, H⟩
  ihave H := (Entails.of_eq (show (iLoc d L ↦{fullShare} f : sProp 𝕄) = bigSep Finset.univ fun j : Fin 7 => iLoc d L ↦[lSet j]{fullShare} f by
    rw [← pointsTo_biUnion Finset.univ (ℓ := iLoc d L) lSet lSet_disjoint, lSet_cover])) $$ H
  iapply (show (bigSep Finset.univ fun j : Fin 7 => iprop(iLoc d L ↦[lSet j]{fullShare} f) : sProp 𝕄) ⊢ bigSep Finset.univ fun j : Fin 7 => Lst (F := F) d L j.isLt from bigSep_mono (fun j _ => (show (iLoc d L ↦[lSet j]{fullShare} f : sProp 𝕄) ⊢ Lst (F := F) d L j.isLt by
    rw [lst_eq]
    iintro H
    iexists f
    iexact H))) $$ H

variable [FloatOps F]

theorem buff_join : (bigSep Finset.univ fun j : Fin 7 => Buff (F := F) d L j.isLt : sProp 𝕄) ⊢ iprop(∃ f : Buf (Elt F) (bLoc d L), bLoc d L ↦{fullShare} f) := by
  rw [bigSep_congr (fun j _ => buff_eq (F := F) d L j)]
  have : Nonempty (Buf (Elt F) (bLoc d L)) := ⟨fun _ => (FloatOps.ofBits .f32 0 : F .f32)⟩
  refine (bigSep_exists_pi Finset.univ (fun j (f : Buf (Elt F) (bLoc d L)) => iprop(bLoc d L ↦[bSet j]{fullShare} f))).trans ?_
  iintro ⟨%fs, H⟩
  ihave H' := (pointsTo_biUnion_join (ℓ := bLoc d L) (q := fullShare) (Val := Elt F) Finset.univ bSet fs (fs 0) bSet_disjoint) $$ H
  icases H' with ⟨%g, -, Hg⟩
  rw [bSet_cover]
  iexists g
  iexact Hg
theorem lst_join : (bigSep Finset.univ fun j : Fin 7 => Lst (F := F) d L j.isLt : sProp 𝕄) ⊢ iprop(∃ f : Buf (Elt F) (iLoc d L), iLoc d L ↦{fullShare} f) := by
  rw [bigSep_congr (fun j _ => lst_eq (F := F) d L j)]
  have : Nonempty (Buf (Elt F) (iLoc d L)) := ⟨fun _ => 0#32⟩
  refine (bigSep_exists_pi Finset.univ (fun j (f : Buf (Elt F) (iLoc d L)) => iprop(iLoc d L ↦[lSet j]{fullShare} f))).trans ?_
  iintro ⟨%fs, H⟩
  ihave H' := (pointsTo_biUnion_join (ℓ := iLoc d L) (q := fullShare) (Val := Elt F) Finset.univ lSet fs (fs 0) lSet_disjoint) $$ H
  icases H' with ⟨%g, -, Hg⟩
  rw [lSet_cover]
  iexists g
  iexact Hg

/-- The slots' shares of a tile's share of the table. -/
def slotShare (q : PosShare TreeShare) (j : Nat) : PosShare TreeShare := pieceOf q 7 (by decide) (Fin.ofNat 7 j)

variable (t : Buf (Elt F) (tLoc d)) (q : PosShare TreeShare) (g : Buf (Elt F) (oLoc d))

theorem tab_split : (tLoc d ↦{q} t : sProp 𝕄) = bigSep Finset.univ fun j : Fin 7 => Tab d t (slotShare q j) := by
  refine (pointsTo_piecesOf (ℓ := tLoc d) Finset.univ t (by decide : 0 < 7) q).trans (bigSep_congr fun j _ => ?_)
  unfold Tab slotShare
  rw [show Fin.ofNat 7 j.val = j from Fin.ext (Nat.mod_eq_of_lt j.isLt)]

/-- What the slots start from, of what the tile is handed. -/
theorem slots_in :
    iprop((tLoc d ↦{q} t) ∗ (oLoc d ↦[tileSet L]{fullShare} g) ∗ (∃ f : Buf (Elt F) (bLoc d L), bLoc d L ↦{fullShare} f)
        ∗ (∃ f : Buf (Elt F) (iLoc d L), iLoc d L ↦{fullShare} f)
        ∗ (bigSep Finset.univ fun j : Fin 7 => semVal (gCell d L j.isLt) 0) ∗ (bigSep Finset.univ fun j : Fin 7 => semVal (sCell d L j.isLt) 0))
      ⊢ (seven (F := F) (fun {j} hj => Slot d L t (slotShare q j) g hj 0) : sProp 𝕄) := by
  rw [seven_eq]
  unfold Slot Base StS FreshS
  rw [bigSep_sep', bigSep_sep', bigSep_sep', bigSep_sep', bigSep_sep', tab_split, tile_chunks]
  iintro ⟨Ht, Ho, Hb, Hl, Hg, Hs⟩
  isplitl [Hl Ht Hg]
  · isplitl [Hl]; · iapply (lst_split d L) $$ Hl
    isplitl [Ht]; · iexact Ht
    iexact Hg
  isplitl [Hb Hs]
  · isplitl [Hb]; · iapply (buff_split d L) $$ Hb
    iexact Hs
  iexact Ho

/-- What they end with, as the tile gives it back. -/
theorem slots_out :
    (seven (F := F) (fun {j} hj => SlotEnd d L t (slotShare q j) hj) : sProp 𝕄)
      ⊢ iprop((tLoc d ↦{q} t) ∗ (oLoc d ↦[tileSet L]{fullShare} gathered t) ∗ (∃ f : Buf (Elt F) (bLoc d L), bLoc d L ↦{fullShare} f)
        ∗ (∃ f : Buf (Elt F) (iLoc d L), iLoc d L ↦{fullShare} f)
        ∗ (bigSep Finset.univ fun j : Fin 7 => semVal (gCell d L j.isLt) 0) ∗ (bigSep Finset.univ fun j : Fin 7 => semVal (sCell d L j.isLt) 0)) := by
  have hd (j : Nat) : (DoneS d L t j 3 : sProp 𝕄) ⊢ iprop(chP d L j 0 (gathered t) ∗ chP d L j 1 (gathered t) ∗ chP d L j 2 (gathered t)) := by
    rw [show (DoneS d L t j 3 : sProp 𝕄) = iprop(((emp ∗ chP d L j 0 (gathered t)) ∗ chP d L j 1 (gathered t)) ∗ chP d L j 2 (gathered t)) from rfl]
    iintro ⟨⟨⟨-, H0⟩, H1⟩, H2⟩
    isplitl [H0]; · iexact H0
    isplitl [H1]; · iexact H1
    iexact H2
  have hdone : (bigSep Finset.univ fun j : Fin 7 => DoneS d L t j 3 : sProp 𝕄)
      ⊢ bigSep Finset.univ fun j : Fin 7 => iprop(chP d L j 0 (gathered t) ∗ chP d L j 1 (gathered t) ∗ chP d L j 2 (gathered t)) :=
    bigSep_mono fun j _ => hd j.val
  rw [seven_eq]
  unfold SlotEnd Base
  rw [bigSep_sep', bigSep_sep', bigSep_sep', bigSep_sep', bigSep_sep', tab_split, tile_chunks]
  iintro ⟨⟨Hl, Ht, Hg⟩, Hb, Hs, Ho⟩
  isplitl [Ht]; · iexact Ht
  isplitl [Ho]; · iapply hdone $$ Ho
  isplitl [Hb]; · iapply (buff_join d L) $$ Hb
  isplitl [Hl]; · iapply (lst_join d L) $$ Hl
  isplitl [Hg]; · iexact Hg
  iexact Hs

end Cert.Proof.Sc

end
-- ==== Proof.ScLaunch.lean ====
/-
  The SparseCore call: what goes to each SparseCore and to each of its tiles and what comes back, a tile's run as the launch
  asks for it, and the whole call over both SparseCores: the table in, the output array filled from it out.
-/
module

public import proofs.«01_k».proof.Proof.ScPieces
public import proofs.«01_k».proof.Proof.Gen.KernelIdeal.Launch

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ### What is handed over -/

variable (tf : (d : Dev nD) → Buf (Elt F) (tLoc d)) (gf : (d : Dev nD) → Buf (Elt F) (oLoc d))

/-- The shares of the table: a SparseCore's, and a tile's of it. -/
def coreShare (c : Fin 2) : PosShare TreeShare := pieceOf fullShare 2 (by decide) c
def tileShare (c : Fin 2) (i : Fin 16) : PosShare TreeShare := pieceOf (coreShare c) 16 (by decide) i

abbrev stP (d : Dev nD) (c : Fin 2) : sProp 𝕄 := iprop((tLoc d ↦{coreShare c} tf d) ∗ oLoc d ↦[coreSet c]{fullShare} gf d)
abbrev dnP (d : Dev nD) (c : Fin 2) : sProp 𝕄 := iprop((tLoc d ↦{coreShare c} tf d) ∗ oLoc d ↦[coreSet c]{fullShare} (gathered (tf d) : Buf (Elt F) (oLoc d)))
abbrev goP (d : Dev nD) (c : Fin 2) (i : Fin 16) : sProp 𝕄 :=
  iprop((tLoc d ↦{tileShare c i} tf d) ∗ oLoc d ↦[tileSet (coordsV c i)]{fullShare} gf d)
abbrev tdP (d : Dev nD) (c : Fin 2) (i : Fin 16) : sProp 𝕄 :=
  iprop((tLoc d ↦{tileShare c i} tf d) ∗ oLoc d ↦[tileSet (coordsV c i)]{fullShare} (gathered (tf d) : Buf (Elt F) (oLoc d)))

def P : (K (F := F)).Pay (nD := nD) (Val := Elt F) (Name := ℕ) (U := UU) where
  st := fun q d c => match q with | 0 => stP tf gf d (Fin.cast nCore_zero c)
  dn := fun q d c => match q with | 0 => dnP tf d (Fin.cast nCore_zero c)
  go := fun q d c i => match q with | 0 => goP tf gf d (Fin.cast nCore_zero c) (Fin.cast nSub_zero i)
  td := fun q d c i => match q with | 0 => tdP tf d (Fin.cast nCore_zero c) (Fin.cast nSub_zero i)
  x := fun _ _ => iprop(emp)

instance P_storable : (P (F := F) tf gf).IsStorable where
  st q d c := match q with | 0 => (inferInstance : BI.Storable (upEmb : UEmb _ 𝕄) (stP tf gf d (Fin.cast nCore_zero c)))
  dn q d c := match q with | 0 => (inferInstance : BI.Storable (upEmb : UEmb _ 𝕄) (dnP tf d (Fin.cast nCore_zero c)))
  go q d c i := match q with | 0 => (inferInstance : BI.Storable (upEmb : UEmb _ 𝕄) (goP tf gf d (Fin.cast nCore_zero c) (Fin.cast nSub_zero i)))
  td q d c i := match q with | 0 => (inferInstance : BI.Storable (upEmb : UEmb _ 𝕄) (tdP tf d (Fin.cast nCore_zero c) (Fin.cast nSub_zero i)))

/-! ### A tile's own buffers and semaphores -/

section Tile

variable (d : Dev nD) (L : grid1.Coords)

theorem gS_val : ∀ j : Fin 7, (gS j.isLt).val = 8 + j.val := by decide
theorem sS_val : ∀ j : Fin 7, (sS j.isLt).val = 15 + j.val := by decide

theorem own_dma (s : DmaSem sig) : ((th d L, SemLoc.dma s) : GSem nD τ sig) ∈ ownCells (th d L) :=
  mem_ownCells.mpr ⟨rfl, (show ∀ s : DmaSem sig, (SemLoc.dma s : SemLoc sig).isScoped .scVector = true by decide) s⟩
theorem dma_inj {s s' : DmaSem sig} (h : ((th d L, SemLoc.dma s) : GSem nD τ sig) = (th d L, SemLoc.dma s')) : s = s' := by
  have := congrArg (fun g : GSem nD τ sig => g.2) h
  simpa only [SemLoc.dma.injEq] using this

def gCells : Finset (GSem nD τ sig) := Finset.univ.image fun j : Fin 7 => gCell d L j.isLt
def sCells : Finset (GSem nD τ sig) := Finset.univ.image fun j : Fin 7 => sCell d L j.isLt

theorem sems_V :
    (ownSems0 (th d L) : sProp 𝕄)
      = iprop((bigSep Finset.univ fun j : Fin 7 => semVal (gCell d L j.isLt) 0) ∗ (bigSep Finset.univ fun j : Fin 7 => semVal (sCell d L j.isLt) 0)
          ∗ bigSep ((ownCells (th d L) \ gCells d L) \ sCells d L) fun g => semVal g 0) := by
  unfold SparseCore.Cfg.ownSems0
  have hs : sCells d L ⊆ ownCells (th d L) \ gCells d L := by
    refine Finset.image_subset_iff.mpr fun j _ => Finset.mem_sdiff.mpr ⟨own_dma d L _, fun h => ?_⟩
    obtain ⟨i, -, hi⟩ := Finset.mem_image.mp h
    have h1 := congrArg Fin.val (dma_inj d L hi)
    have h2 := gS_val i
    have h3 := sS_val j
    have := i.isLt
    omega
  rw [SparseCore.bigSep_sdiff_split' (t := gCells d L) (Finset.image_subset_iff.mpr fun j _ => own_dma d L _),
    SparseCore.bigSep_sdiff_split' (t := sCells d L) hs]
  unfold gCells sCells
  rw [SparseCore.bigSep_image_of_injOn (fun a _ b _ h => by
      have h1 := congrArg Fin.val (dma_inj d L h)
      have h2 := gS_val a
      have h3 := gS_val b
      exact Fin.ext (by omega)),
    SparseCore.bigSep_image_of_injOn (fun a _ b _ h => by
      have h1 := congrArg Fin.val (dma_inj d L h)
      have h2 := sS_val a
      have h3 := sS_val b
      exact Fin.ext (by omega))]

theorem bufs_V :
    (ownBufs (th d L) : sProp 𝕄)
      = iprop((∃ f, bLoc d L ↦{fullShare} f) ∗ (∃ f, iLoc d L ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem waits_any (W W' : Waits sig (HIx 1)) : ∀ p ∈ W', p ∈ W ∨ p.2 = none ∨ p.2 = some (0 : Fin 1) := by
  rintro ⟨a, b⟩ -
  right
  rcases b with _ | b
  · exact .inl rfl
  · exact .inr (congrArg some (Subsingleton.elim b 0))

theorem tile_body (q : PosShare TreeShare) (t : Buf (Elt F) (tLoc d)) (g : Buf (Elt F) (oLoc d))
    (O : CellTallies nD τ sig (HIx 1)) (W : Waits sig (HIx 1)) (hO : ∀ g, O g none = 0) :
    iprop(levAts (K (F := F)).L (K (F := F)).lev ∗ emp
        ∗ ((tLoc d ↦{q} t) ∗ oLoc d ↦[tileSet L]{fullShare} g)
        ∗ scopedBufs (th d L) ∗ scopedSems0 (th d L) ∗ owes (th d L) O W : sProp 𝕄)
      ⊢ wp frame (wpE (defs₀ (F := F)) 𝒱₀ (th d L) none) Set.univ
          (cc1_expand L tV (Memref.isWhole_whole _) oV (Memref.isWhole_whole _) aV (Memref.isWhole_whole _) lV (Memref.isWhole_whole _) cc1_scratch2 cc1_scratch3)
          fun _ => iprop(((tLoc d ↦{q} t) ∗ oLoc d ↦[tileSet L]{fullShare} (gathered t : Buf (Elt F) (oLoc d)))
            ∗ scopedBufs (th d L) ∗ scopedSems0 (th d L)
            ∗ ∃ W', ⌜∀ p ∈ W', p ∈ W ∨ p.2 = none ∨ p.2 = some (0 : Fin 1)⌝ ∗ owes (th d L) O W') := by
  rw [expand_eq, (K (F := F)).scopedBufs_V facts d (cV L) (jV L), SparseCore.Cfg.scopedSems0_V (Val := Elt F) d (cV L) (jV L), sems_V, bufs_V]
  iintro ⟨#Hlv, -, ⟨Ht, Ho⟩, ⟨Hb, Hl, Hbufs⟩, ⟨Hg, Hs, Hsems⟩, HO⟩
  ihave Hmw := (show levAts (K (F := F)).L (K (F := F)).lev ⊢ Transfers.MayWaits (th d L) (default : HIx 1) O from
    (K (F := F)).mayWaits_none (thr := th d L) hO) $$ Hlv
  ihave Hin := (slots_in d L t q g) $$ [Ht Ho Hb Hl Hg Hs]
  · isplitl [Ht]; · iexact Ht
    isplitl [Ho]; · iexact Ho
    isplitl [Hb]; · iexact Hb
    isplitl [Hl]; · iexact Hl
    isplitl [Hg]; · iexact Hg
    iexact Hs
  iapply (Idealize.SL.Sem.wp_wand_r frame (wpE (defs₀ (F := F)) 𝒱₀ (th d L) none) Set.univ (Q := fun _ => iprop(seven (F := F) (fun {j} hj => SlotEnd d L t (slotShare q j) hj) ∗ Owe (F := F) d L O)))
  isplitl [Hin Hmw HO]
  · iapply (wp_tile d L t (slotShare q) g O)
    unfold Slots
    isplitl [Hin]; · iexact Hin
    unfold Owe
    isplitl [Hmw]; · iexact Hmw
    iexists W
    iexact HO
  iintro %_ ⟨He, HO⟩
  ihave He := (slots_out d L t q) $$ He
  icases He with ⟨Ht, Ho, Hb, Hl, Hg, Hs⟩
  unfold Owe
  icases HO with ⟨-, %W', HO⟩
  isplitl [Ht Ho]
  · isplitl [Ht]; · iexact Ht
    iexact Ho
  isplitl [Hb Hl Hbufs]
  · isplitl [Hb]; · iexact Hb
    isplitl [Hl]; · iexact Hl
    iexact Hbufs
  isplitl [Hg Hs Hsems]
  · isplitl [Hg]; · iexact Hg
    isplitl [Hs]; · iexact Hs
    iexact Hsems
  iexists W'
  isplitr; · ipureintro; exact waits_any W W'
  iexact HO

theorem defs₀_vector (c : Fin τ.nSC) (s : Fin τ.nSub) :
    defs₀ (F := F) (.scVector c s) 1 ()
      = SparseCore.onTile hcore1 hsub1 (fun c s => cc1_expand (coordsV c s) tV (Memref.isWhole_whole _) oV (Memref.isWhole_whole _)
          aV (Memref.isWhole_whole _) lV (Memref.isWhole_whole _) cc1_scratch2 cc1_scratch3) ⟨⟩ c s := rfl

set_option maxRecDepth 16384 in
theorem tileObl : (K (F := F)).TileObl (D (F := F)) 𝒱 (P tf gf) v₀ 0 := by
  intro d c i O W hO _ _
  simp only [show (P tf gf).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (tileShare c i) (tf d) (gf d) O W hO

end Tile

/-! ### The split among the tiles, and among the SparseCores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem core_tiles (d : Dev nD) (c : Fin 2) (f : Buf (Elt F) (oLoc d)) :
    iprop((tLoc d ↦{coreShare c} tf d) ∗ oLoc d ↦[coreSet c]{fullShare} f : sProp 𝕄)
      = bigSep Finset.univ fun i : Fin 16 => iprop((tLoc d ↦{tileShare c i} tf d) ∗ oLoc d ↦[tileSet (coordsV c i)]{fullShare} f) := by
  rw [bigSep_sep', ← tiles_cover, pointsTo_biUnion Finset.univ (ℓ := oLoc d) _ (tiles_disjoint c),
    pointsTo_piecesOf (ℓ := tLoc d) Finset.univ (tf d) (by decide : 0 < 16) (coreShare c)]
  rfl

theorem array_cores (d : Dev nD) (f : Buf (Elt F) (oLoc d)) :
    iprop((tLoc d ↦{fullShare} tf d) ∗ oLoc d ↦{fullShare} f : sProp 𝕄)
      = bigSep Finset.univ fun c : Fin 2 => iprop((tLoc d ↦{coreShare c} tf d) ∗ oLoc d ↦[coreSet c]{fullShare} f) := by
  rw [bigSep_sep', ← pointsTo_biUnion Finset.univ (ℓ := oLoc d) _ cores_disjoint, cores_cover,
    pointsTo_piecesOf (ℓ := tLoc d) Finset.univ (tf d) (by decide : 0 < 2) fullShare]
  rfl

theorem vecSplit : (K (F := F)).VecSplit' (P tf gf) 0 := by
  intro d c
  show stP tf gf d (Fin.cast nCore_zero c) ⊢ |={Set.univ}=> iprop(
      (bigSep Finset.univ fun i : Fin ((K (F := F)).nSub 0) => goP tf gf d (Fin.cast nCore_zero c) (Fin.cast nSub_zero i))
      ∗ ((bigSep Finset.univ fun i : Fin ((K (F := F)).nSub 0) => tdP tf d (Fin.cast nCore_zero c) (Fin.cast nSub_zero i))
          -∗ dnP tf d (Fin.cast nCore_zero c)))
  rw [bigSep_tasks (F := F) (fun i => goP tf gf d (Fin.cast nCore_zero c) i), bigSep_tasks (F := F) (fun i => tdP tf d (Fin.cast nCore_zero c) i)]
  unfold stP dnP
  rw [core_tiles tf d _ (gf d), core_tiles tf d _ (gathered (tf d))]
  iintro H
  imodintro
  isplitl [H]; · iexact H
  iintro H
  iexact H

/-- The call's operands over both SparseCores, and its results. -/
theorem st_eq (d : Dev nD) : (bigSep Finset.univ fun c : Fin ((K (F := F)).nCore 0) => (P tf gf).st 0 d c : sProp 𝕄)
    = iprop((tLoc d ↦{fullShare} tf d) ∗ oLoc d ↦{fullShare} gf d) := by
  rw [array_cores tf d (gf d)]
  exact bigSep_cores (F := F) fun c => stP tf gf d c
theorem dn_eq (d : Dev nD) : (bigSep Finset.univ fun c : Fin ((K (F := F)).nCore 0) => (P tf gf).dn 0 d c : sProp 𝕄)
    = iprop((tLoc d ↦{fullShare} tf d) ∗ oLoc d ↦{fullShare} (gathered (tf d) : Buf (Elt F) (oLoc d))) := by
  rw [array_cores tf d (gathered (tf d))]
  exact bigSep_cores (F := F) fun c => dnP tf d c

/-! ### The launch element of the certificate's ghost state -/

theorem bigSep_emp' {I : Type} (s : Finset I) : (bigSep s fun _ => iprop(emp)) = (iprop(emp) : sProp 𝕄) := bigSep_emp_const s

/-- What device `d`'s TensorCore starts with for its pipeline: the staging cells' rounds and every transfer's token. -/
abbrev G (d : Dev nD) : sProp 𝕄 := iprop(Pipeline.cellsGhost cfgs EP 0 d ∗ Pipeline.toksInit cfgs EP 0 d)

def u₀ : UU := (initOf (K (F := F)).hsCells (K (F := F)).hsToks,
  (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tf gf).x q thr) := by
  have hc : (bigSep Finset.univ fun c : Dev nD => bigSep Finset.univ fun p : Fin 1 => (Pipeline.cellsGhost cfgs EP p c : sProp 𝕄))
      = bigSep Finset.univ fun d : Dev nD => Pipeline.cellsGhost cfgs EP 0 d := bigSep_congr fun _ _ => bigSep_univ_of_subsingleton (0 : Fin 1)
  have ht : (bigSep Finset.univ fun c : Dev nD => bigSep Finset.univ fun p : Fin 1 => (Pipeline.toksInit cfgs EP p c : sProp 𝕄))
      = bigSep Finset.univ fun d : Dev nD => Pipeline.toksInit cfgs EP 0 d := bigSep_congr fun _ _ => bigSep_univ_of_subsingleton (0 : Fin 1)
  have hG : iprop((bigSep Finset.univ fun c : Dev nD => bigSep Finset.univ fun p : Fin 1 => (Pipeline.cellsGhost cfgs EP p c : sProp 𝕄))
      ∗ bigSep Finset.univ fun c : Dev nD => bigSep Finset.univ fun p : Fin 1 => (Pipeline.toksInit cfgs EP p c : sProp 𝕄))
      ⊢ (bigSep Finset.univ fun d : Dev nD => G (F := F) d : sProp 𝕄) := by
    rw [hc, ht, ← bigSep_sep']
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HP, -⟩
  imod (Pipeline.fund_ghost cfgs EP cellOf_inj) $$ HP with ⟨Hg, Ht⟩
  imodintro
  isplitl [HH]; · iexact HH
  isplitl [Hg Ht]
  · iapply hG; isplitl [Hg]; · iexact Hg
    iexact Ht
  rw [show (bigSep Finset.univ fun thr : Thread nD τ => bigSep Finset.univ fun q : Fin 1 => (P (F := F) tf gf).x q thr) = bigSep Finset.univ fun _ => iprop(emp) from
    bigSep_congr fun _ _ => bigSep_univ_of_subsingleton (0 : Fin 1), bigSep_emp']
  iempintro

end Cert.Proof.Sc

end
-- ==== Proof.ScMain.lean ====
/-
  @main on the TensorCore: the kernel's region, the reshape of its result to the table, the SparseCore call, and the reshape of
  what the call leaves to the result.
-/
module

public import proofs.«01_k».proof.Proof.ScRegion
public import proofs.«01_k».proof.Proof.ScLaunch

@[expose] public section

noncomputable section

namespace Cert.Proof.Sc

open Cert.KernelIdeal Cert.KernelIdeal.Gen
open Idealize.ShloMosaic
open Idealize.ShloMosaic.TcCoe
open Idealize.ShloMosaic.SparseCore (S V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The TensorCore kernel's call in @main: from the unscoped buffers at the launch contents to them with the kernel's result. -/
theorem wp_tc (d : Dev nD) (Q : PUnit → sProp 𝕄) :
    iprop(boundary (SparseCore.T d) ∗ unscopedBufs d (Sc.V m d) ∗ due d ∗ levAts (K (F := F)).L (K (F := F)).lev ∗ G d
        ∗ ((boundary (SparseCore.T d) ∗ unscopedBufs d (Vp m d) ∗ due d) -∗ Q ⟨⟩))
      ⊢ wp frame (wpE ((K (F := F)).defs (D (F := F))) 𝒱 (SparseCore.T d) none) Set.univ
          (Prog.lift (.customCall (SparseCore.inner (Pipeline.entry 0)) ())) Q := by
  have h1 := (K (F := F)).wp_liftProg (D (F := F)) 𝒱 (SparseCore.T d) Set.univ none
    (.op (.customCall (Pipeline.entry 0) ()) .ret : Prog (TpuEff nD τ sig (Elt F) (ΛP (F := F)) (SparseCore.T d : Thread nD τ).2) PUnit) Q
  refine BIBase.Entails.trans ?_ h1
  have h2 := Pipeline.RegionSeg.wp (pcfgs (F := F)) adm (pdats m) none cellOf_inj EP defs₀ 𝒱₀ (K (F := F)).L (K (F := F)).lev
    (reg m) d none (fun u h => nomatch h) (.ret : PUnit → Prog (TpuEff nD τ sig (Elt F) (ΛP (F := F)) .tc) PUnit) Q
  refine BIBase.Entails.trans ?_ h2
  have hpost : (reg m).post d ⊢ (iprop(unscopedBufs d (Vp m d) ∗ due d) : sProp 𝕄) := Entails.of_eq rfl
  have hpre : (iprop(unscopedBufs d (Sc.V m d) ∗ due d) : sProp 𝕄) ⊢ (reg m).pre d := Entails.of_eq rfl
  iintro ⟨Hb, Hub, Hdue, Hl, ⟨Hg, Ht⟩, Hk⟩
  isplitl [Hk]
  · rw [wp_ret]
    iintro ⟨Hb, Hp⟩
    ihave Hp := hpost $$ Hp
    icases Hp with ⟨Hub, Hdue⟩
    imodintro
    iapply Hk
    isplitl [Hb]; · iexact Hb
    isplitl [Hub]; · iexact Hub
    iexact Hdue
  isplitl [Hb]; · iexact Hb
  isplitl [Hub Hdue]
  · iapply hpre
    isplitl [Hub]; · iexact Hub
    iexact Hdue
  isplitl [Hl]; · iexact Hl
  isplitl [Hg]; · iexact Hg
  iexact Ht

/-! ### The two reshapes -/

abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)

abbrev op1 : HloOp τ sig (Elt F) := StableHlo.reshape main_v0 main_v1 (rfl : (.f32 : EltTy) = .f32) shapeCasts_S4096x256_S4096x2x128
abbrev op3 : HloOp τ sig (Elt F) := StableHlo.reshape main_v2 main_v3 (rfl : (.f32 : EltTy) = .f32) shapeCasts_S30784x2x128_S8x481x8x256

/-- The table at the call, the call's result buffer before it, and @main's result. -/
def tabV (d : Dev nD) : Buf (Elt F) (tLoc d) := (shapeCast S4096x2x128 (tcOut m d : Vec F S4096x256 .f32) shapeCasts_S4096x256_S4096x2x128 : Vec F S4096x2x128 .f32)
def oldV (d : Dev nD) : Buf (Elt F) (oLoc d) := m (oLoc d)
def outV (d : Dev nD) : Buf (Elt F) ((SparseCore.T d : Thread nD τ).loc main_v3) :=
  (shapeCast S8x481x8x256 (gathered (tabV m d) : Vec F S30784x2x128 .f32) shapeCasts_S30784x2x128_S8x481x8x256 : Vec F S8x481x8x256 .f32)

def W1 (d : Dev nD) : Valuation τ sig (Elt F) := Function.update (fun b => m (d, b)) b0 (tcOut m d)
def W3 (d : Dev nD) : Valuation τ sig (Elt F) := Function.update (fun b => m (d, b)) b2 (gathered (tabV m d) : Buf (Elt F) (oLoc d))

theorem held1 (d : Dev nD) (W : Valuation τ sig (Elt F)) :
    (held (SparseCore.T d) {b0, b1} W : sProp 𝕄) = iprop(((SparseCore.T d).loc main_v0 ↦{fullShare} W b0) ∗ tLoc d ↦{fullShare} W b1) := by
  unfold held
  rw [SparseCore.bigSep_insert' (by decide), bigSep_singleton]
theorem held3 (d : Dev nD) (W : Valuation τ sig (Elt F)) :
    (held (SparseCore.T d) {b2, b3} W : sProp 𝕄) = iprop((oLoc d ↦{fullShare} W b2) ∗ (SparseCore.T d).loc main_v3 ↦{fullShare} W b3) := by
  unfold held
  rw [SparseCore.bigSep_insert' (by decide), bigSep_singleton]

theorem W1_0 (d : Dev nD) : W1 m d b0 = tcOut m d := Function.update_self _ _ _
theorem W1_1 (d : Dev nD) : W1 m d b1 = m (tLoc d) := Function.update_of_ne (show b1 ≠ b0 by decide) _ _
theorem W3_2 (d : Dev nD) : W3 m d b2 = (gathered (tabV m d) : Buf (Elt F) (oLoc d)) := Function.update_self _ _ _
theorem W3_3 (d : Dev nD) : W3 m d b3 = m ((SparseCore.T d).loc main_v3) := Function.update_of_ne (show b3 ≠ b2 by decide) _ _

theorem res1 (d : Dev nD) : (op1 (F := F)).result (W1 m d) b1 = tabV m d := by
  unfold op1
  rw [StableHlo.reshape_result, W1_0]; rfl
theorem res3 (d : Dev nD) : (op3 (F := F)).result (W3 m d) b3 = outV m d := by
  unfold op3
  rw [StableHlo.reshape_result, W3_2]; rfl

theorem bufs1 : (op1 (F := F)).bufs ⊆ ({b0, b1} : Finset (DevRef τ sig)) := by unfold op1; rw [StableHlo.reshape_bufs]
theorem bufs3 : (op3 (F := F)).bufs ⊆ ({b2, b3} : Finset (DevRef τ sig)) := by unfold op3; rw [StableHlo.reshape_bufs]

/-- The TensorCore's unscoped buffers, listed. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ (tLoc d ↦{fullShare} W main_v1) ∗ (oLoc d ↦{fullShare} W main_v2)
      ∗ (SparseCore.T d).loc main_v3 ↦{fullShare} W main_v3) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The same list of buffers after the kernel. -/
theorem unscopedVp_eq (d : Dev nD) :
    (unscopedBufs d (Vp m d) : sProp 𝕄) = iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg2 ↦{fullShare} m ((SparseCore.T d).loc main_arg2))
      ∗ ((SparseCore.T d).loc main_arg3 ↦{fullShare} m ((SparseCore.T d).loc main_arg3))
      ∗ ((SparseCore.T d).loc main_v0 ↦{fullShare} tcOut m d) ∗ (tLoc d ↦{fullShare} m (tLoc d)) ∗ (oLoc d ↦{fullShare} oldV m d)
      ∗ (SparseCore.T d).loc main_v3 ↦{fullShare} m ((SparseCore.T d).loc main_v3)) := by
  rw [unscopedBufs_eq, Vp_out, Vp_ne m d main_v1 (by decide), Vp_ne m d main_v2 (by decide), Vp_ne m d main_v3 (by decide),
    Vp_ne m d main_arg0 (by decide), Vp_ne m d main_arg1 (by decide), Vp_ne m d main_arg2 (by decide), Vp_ne m d main_arg3 (by decide)]
  rfl

/-- What the TensorCore owes before the SparseCore call, taken out of its state and put back. -/
theorem tcSt_due (d : Dev nD) :
    ((K (F := F)).tcSt EH d 0 : sProp 𝕄) ⊢ iprop(due d ∗ (due d -∗ (K (F := F)).tcSt EH d 0)) := by
  unfold SparseCore.Cfg.tcSt
  iintro ⟨Hdue, Hst⟩
  isplitl [Hdue]; · iexact Hdue
  iintro Hdue
  isplitl [Hdue]; · iexact Hdue
  iexact Hst

/-- What @main leaves: the arguments at their launch contents, the result at `outV`. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ (SparseCore.T d).loc main_v3 ↦{fullShare} outV m d)

theorem hmain (κ : GSem nD τ sig → ℕ) (d : Dev nD) :
    iprop((K (F := F)).ctx EH (P (tabV m) (oldV m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  ihave #Hlev := (SparseCore.Cfg.ctx_levAts (K := K (F := F)) κ) $$ Hctx
  ihave Hst := (tcSt_due (F := F) d) $$ Hst
  icases Hst with ⟨Hdue, Hst⟩
  -- the TensorCore kernel
  iapply (wp_tc m d) $$ [Hb Hub Hdue HG Hst Hts]
  isplitl [Hb]; · iexact Hb
  isplitl [Hub]; · iexact Hub
  isplitl [Hdue]; · iexact Hdue
  isplitr; · iexact Hlev
  isplitl [HG]; · iexact HG
  iintro ⟨Hb, Hub, Hdue⟩
  ihave Hub := (Entails.of_eq (unscopedVp_eq m d)) $$ Hub
  icases Hub with ⟨H0, H1, H2, H3, Hv0, Hv1, Hv2, Hv3⟩
  -- the table
  iapply (wp_hlo_within 𝒱 (SparseCore.T d) none Set.univ (op := op1) (S := {b0, b1}) bufs1 (V := W1 m d)) $$ [Hb Hv0 Hv1]
  · isplitl [Hb]; · iexact Hb
    rw [held1, W1_0, W1_1]
    isplitl [Hv0]; · iexact Hv0
    iexact Hv1
  iintro ⟨Hb, Hheld⟩
  ihave Hh := (Entails.of_eq (held1 (F := F) d _)) $$ Hheld
  icases Hh with ⟨-, Hv1⟩
  rw [res1]
  rw [wp_ret]; imodintro
  -- the SparseCore call
  iapply ((K (F := F)).wp_run (D (F := F)) 𝒱 (EH := EH) (P := P (tabV m) (oldV m)) κ d 0) $$ [Hst Hdue Hv1 Hv2 Hb Hts H0 H1 H2 H3 Hv3]
  isplitr; · iexact Hctx
  isplitl [Hst Hdue]
  · iapply Hst; iexact Hdue
  isplitl [Hv1 Hv2]
  · rw [st_eq]
    isplitl [Hv1]; · iexact Hv1
    iexact Hv2
  iintro ⟨Hst, Hdn⟩
  ihave Hdn' := (Entails.of_eq (dn_eq (tabV m) (oldV m) d)) $$ Hdn
  icases Hdn' with ⟨-, Hv2⟩
  -- the result
  iapply (wp_hlo_within 𝒱 (SparseCore.T d) none Set.univ (op := op3) (S := {b2, b3}) bufs3 (V := W3 m d)) $$ [Hb Hv2 Hv3]
  · isplitl [Hb]; · iexact Hb
    rw [held3, W3_2, W3_3]
    isplitl [Hv2]; · iexact Hv2
    iexact Hv3
  iintro ⟨Hb, Hheld⟩
  ihave Hh := (Entails.of_eq (held3 (F := F) d _)) $$ Hheld
  icases Hh with ⟨-, Hv3⟩
  rw [res3]
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    iexact Hv3
  isplitl [Hb] <;> iassumption

/-- What the launch's end says of the memory. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_v3) = outV m d

set_option maxRecDepth 16384 in
theorem hfin (d : Dev nD) (s' : Phys nD τ sig (Elt F)) : iprop(FIN m d ∗ SI s') ⊢ (⌜fq m d s'⌝ : sProp 𝕄) := by
  have key : ∀ (ℓ : Loc nD τ sig) (f : Buf (Elt F) ℓ), iprop(SI s' ∗ ℓ ↦{fullShare} f) ⊢ (iprop(⌜s'.mem.mem ℓ = f⌝ ∗ SI s') : sProp 𝕄) := by
    intro ℓ f
    iintro H
    ihave H := (persistent_entails_right (SI_pointsTo_agree (st := s') (ℓ := ℓ) (I := Finset.univ) (q := fullShare) (f := f))) $$ H
    icases H with ⟨%h1, HSI, -⟩
    isplitr
    · ipureintro; exact funext fun i => h1 i (Finset.mem_univ i)
    iexact HSI
  iintro ⟨⟨H0, H1, H2, H3, H4⟩, HSI⟩
  ihave H := (key _ _) $$ [HSI H0]
  · isplitl [HSI] <;> iassumption
  icases H with ⟨%h0, HSI⟩
  ihave H := (key _ _) $$ [HSI H1]
  · isplitl [HSI] <;> iassumption
  icases H with ⟨%h1, HSI⟩
  ihave H := (key _ _) $$ [HSI H2]
  · isplitl [HSI] <;> iassumption
  icases H with ⟨%h2, HSI⟩
  ihave H := (key _ _) $$ [HSI H3]
  · isplitl [HSI] <;> iassumption
  icases H with ⟨%h3, HSI⟩
  ihave H := (key _ _) $$ [HSI H4]
  · isplitl [HSI] <;> iassumption
  icases H with ⟨%h4, -⟩
  ipureintro; exact ⟨h0, h1, h2, h3, h4⟩

def QC : PUnit × MemSt nD τ sig (Elt F) → Prop := fun r => (∀ d : Dev nD,
  r.2.mem ((SparseCore.T d).loc main_arg0) = m ((SparseCore.T d).loc main_arg0) ∧ r.2.mem ((SparseCore.T d).loc main_arg1) = m ((SparseCore.T d).loc main_arg1)
  ∧ r.2.mem ((SparseCore.T d).loc main_arg2) = m ((SparseCore.T d).loc main_arg2) ∧ r.2.mem ((SparseCore.T d).loc main_arg3) = m ((SparseCore.T d).loc main_arg3)
  ∧ r.2.mem ((SparseCore.T d).loc main_v3) = outV m d) ∧ r.2.sem = fun _ => 0

/-- The program's run. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabV m) (oldV m)) (A := ∅) facts v₀
    (fun q hq => match q with | 0 => nomatch hq)
    (fun q _ => match q with | 0 => tileObl (tabV m) (oldV m))
    (fun q _ => match q with | 0 => SparseCore.Cfg.VecSplit.of_plain (vecSplit (tabV m) (oldV m)))
    m ρ main G (FIN m) (u₀ (F := F)) (sep_elim_left.trans (hu₀ (tabV m) (oldV m))) (hmain m ρ) (fq m) (hfin m) (QC m) (fun _ h hz => ⟨h, hz⟩)

end Cert.Proof.Sc

end
-- ==== Proof.RefRun.lean ====
/-
  The run of the reference: a straight line of host operations, its three calls opened in place. `out` names what the line leaves in
  the result, in the stages the plain text has: labels, windows, counts, majority, pooled mean, the gathered row, the product.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- One encoder: the query rows times a weight. -/
def enc (q : FVec F S8x20x256 .f32) (w : FVec F S256x256 .f32) : FVec F S8x20x256 .f32 :=
  Host.dotGeneral dot_S8x20x256_S256x256_S8x20x256_2_0_01_1_n_n none q w

/-- The similarity of every clip to every word. -/
def sim (v : FVec F S8x512x256 .f32) (q : FVec F S8x20x256 .f32) (w1 : FVec F S256x256 .f32) : FVec F S8x512x20 .f32 :=
  Host.dotGeneral dot_S8x512x256_S8x20x256_S8x512x20_2_2_1_1_0_0 none v (enc q w1)

/-- The word a clip is nearest to. -/
def labels (s : FVec F S8x512x20 .f32) : IVec S8x512 32 := fun j =>
  (Host.argReduce reducer_argmax_f32_i32 s (iotaInDim S8x512x20 32 2) (constant S_ .f32 0xFF800000#32) (constantI S_ 32 0#32)
    reducesTo_S8x512x20_S8x512_d2 h_S_ j).2

/-- The clip numbers of a window, before and after the sign adjustment indexing makes. -/
def win0 : IVec S481x32 32 :=
  addi (broadcastInDim S481x32 ![0, 1] bcast_S481x1_S481x32_0_1 (broadcastInDim S481x1 ![0] bcast_S481_S481x1_0 (iotaInDim S481 32 0)))
    (broadcastInDim S481x32 ![0, 1] bcast_S1x32_S481x32_0_1 (broadcastInDim S1x32 ![1] bcast_S32_S1x32_1 (iotaInDim S32 32 0)))
def win : IVec S481x32x1 32 :=
  broadcastInDim S481x32x1 ![0, 1] bcast_S481x32_S481x32x1_0_1
    (select (cmpi .slt win0 (broadcastInDim S481x32 ![] bcast_S_S481x32 (constantI S_ 32 0#32)))
      (addi win0 (broadcastInDim S481x32 ![] bcast_S_S481x32 (constantI S_ 32 512#32))) win0)

/-- The clips of every window, and their labels by chunks of four. -/
def visUnf (v : FVec F S8x512x256 .f32) : FVec F S8x481x32x256 .f32 :=
  Host.gather gather_S8x512x256_S481x32x1_S8x481x32x256_03_1_n_n_1_2_81256 v win
def lblUnf (l : IVec S8x512 32) : IVec S8x481x8x4 32 :=
  shapeCast S8x481x8x4 (Host.gather gather_S8x512_S481x32x1_S8x481x32_0_1_n_n_1_2_81 l win) shapeCasts_S8x481x32_S8x481x8x4

/-- The label of a chunk's clip as a row of zeros and a one. -/
def oneHot (l : IVec S8x481x8x4 32) : FVec F S8x481x8x4x20 .f32 :=
  uitofp .f32 (cmpi .eq
    (broadcastInDim S8x481x8x4x20 ![0, 1, 2, 3, 4] bcast_S8x481x8x4x1_S8x481x8x4x20_0_1_2_3_4
      (broadcastInDim S8x481x8x4x1 ![0, 1, 2, 3] bcast_S8x481x8x4_S8x481x8x4x1_0_1_2_3 l))
    (broadcastInDim S8x481x8x4x20 ![0, 1, 2, 3, 4] bcast_S1x1x1x1x20_S8x481x8x4x20_0_1_2_3_4 (iotaInDim S1x1x1x1x20 32 4)))

/-- How often each word occurs in a chunk, and the word that occurs most. -/
def counts (l : IVec S8x481x8x4 32) : FVec F S8x481x8x20 .f32 :=
  Host.reduceAdd (oneHot l) (constant S_ .f32 0x00000000#32) reducesTo_S8x481x8x4x20_S8x481x8x20_d3 h_S_
def major (c : FVec F S8x481x8x20 .f32) : IVec S8x481x8 32 := fun j =>
  (Host.argReduce reducer_argmax_f32_i32 c (iotaInDim S8x481x8x20 32 3) (constant S_ .f32 0xFF800000#32) (constantI S_ 32 0#32)
    reducesTo_S8x481x8x20_S8x481x8_d3 h_S_ j).2

/-- The mean of a chunk's four clips. -/
def pooled (v : FVec F S8x512x256 .f32) : FVec F S8x481x8x256 .f32 :=
  Host.divf (Host.reduceAdd (shapeCast S8x481x8x4x256 (visUnf v) shapeCasts_S8x481x32x256_S8x481x8x4x256) (constant S_ .f32 0x00000000#32)
      reducesTo_S8x481x8x4x256_S8x481x8x256_d3 h_S_)
    (broadcastInDim S8x481x8x256 ![] bcast_S_S8x481x8x256 (constant S_ .f32 0x40800000#32))

/-- The encoded word a chunk's majority names. -/
def rowOf (e : FVec F S8x20x256 .f32) (k : IVec S8x481x8 32) : FVec F S8x481x8x256 .f32 :=
  Host.gather gather_S8x20x256_S8x481x8x1_S8x481x8x256_3_1_0_0_1_3_11256 e
    (broadcastInDim S8x481x8x1 ![0, 1, 2] bcast_S8x481x8_S8x481x8x1_0_1_2
      (select (cmpi .slt k (broadcastInDim S8x481x8 ![] bcast_S_S8x481x8 (constantI S_ 32 0#32)))
        (addi k (broadcastInDim S8x481x8 ![] bcast_S_S8x481x8 (constantI S_ 32 20#32))) k))

/-- What the reference computes. -/
def out (v : FVec F S8x512x256 .f32) (q : FVec F S8x20x256 .f32) (w1 w2 : FVec F S256x256 .f32) : FVec F S8x481x8x256 .f32 :=
  mulf (rowOf (enc q w2) (major (counts (F := F) (lblUnf (labels (sim v q w1)))))) (pooled v)

/-- @main's operations, in order. -/
abbrev ops : List (HloOp τ sig (Elt F)) :=
  [ binary main_arg1 main_arg2 main_v0 ((fun l r => Host.dotGeneral dot_S8x20x256_S256x256_S8x20x256_2_0_01_1_n_n none l r)),
    binary main_arg1 main_arg3 main_v1 ((fun l r => Host.dotGeneral dot_S8x20x256_S256x256_S8x20x256_2_0_01_1_n_n none l r)),
    binary main_arg0 main_v0 main_v2 ((fun l r => Host.dotGeneral dot_S8x512x256_S8x20x256_S8x512x20_2_2_1_1_0_0 none l r)),
    TRef.nullary main_call0.v0 (iotaInDim S8x512x20 32 2),
    TRef.nullary main_call0.cst (constant S_ .f32 0xFF800000#32),
    TRef.nullary main_call0.c (constantI S_ 32 0#32),
    TRef.quaternary (.of main_v2) main_call0.v0 main_call0.cst main_call0.c main_call0.v1_0 (fun x y u v j => (Host.argReduce reducer_argmax_f32_i32 x y u v reducesTo_S8x512x20_S8x512_d2 h_S_ j).1),
    TRef.quaternary (.of main_v2) main_call0.v0 main_call0.cst main_call0.c main_call0.v1_1 (fun x y u v j => (Host.argReduce reducer_argmax_f32_i32 x y u v reducesTo_S8x512x20_S8x512_d2 h_S_ j).2),
    nullary main_v4 (iotaInDim S481 32 0),
    unary main_v4 main_v5 (broadcastInDim S481x1 ![0] bcast_S481_S481x1_0),
    nullary main_v6 (iotaInDim S32 32 0),
    unary main_v6 main_v7 (broadcastInDim S1x32 ![1] bcast_S32_S1x32_1),
    unary main_v5 main_v8 (broadcastInDim S481x32 ![0, 1] bcast_S481x1_S481x32_0_1),
    unary main_v7 main_v9 (broadcastInDim S481x32 ![0, 1] bcast_S1x32_S481x32_0_1),
    binary main_v8 main_v9 main_v10 (addi),
    nullary main_c (constantI S_ 32 0#32),
    unary main_c main_v11 (broadcastInDim S481x32 ![] bcast_S_S481x32),
    binary main_v10 main_v11 main_v12 (cmpi .slt),
    nullary main_c_0 (constantI S_ 32 512#32),
    unary main_c_0 main_v13 (broadcastInDim S481x32 ![] bcast_S_S481x32),
    binary main_v10 main_v13 main_v14 (addi),
    ternary main_v12 main_v14 main_v10 main_v15 (select),
    unary main_v15 main_v16 (broadcastInDim S481x32x1 ![0, 1] bcast_S481x32_S481x32x1_0_1),
    binary main_arg0 main_v16 main_v17 ((fun x i => Host.gather gather_S8x512x256_S481x32x1_S8x481x32x256_03_1_n_n_1_2_81256 x i)),
    nullary main_c_1 (constantI S_ 32 0#32),
    unary main_c_1 main_v18 (broadcastInDim S481x32 ![] bcast_S_S481x32),
    binary main_v10 main_v18 main_v19 (cmpi .slt),
    nullary main_c_2 (constantI S_ 32 512#32),
    unary main_c_2 main_v20 (broadcastInDim S481x32 ![] bcast_S_S481x32),
    binary main_v10 main_v20 main_v21 (addi),
    ternary main_v19 main_v21 main_v10 main_v22 (select),
    unary main_v22 main_v23 (broadcastInDim S481x32x1 ![0, 1] bcast_S481x32_S481x32x1_0_1),
    binary main_v3 main_v23 main_v24 ((fun x i => Host.gather gather_S8x512_S481x32x1_S8x481x32_0_1_n_n_1_2_81 x i)),
    reshape main_v24 main_v25 (rfl : (.i32 : EltTy) = .i32) shapeCasts_S8x481x32_S8x481x8x4,
    TRef.unary (.of main_v25 : TRef sig ⟨S8x481x8x4, .i32⟩) main_call1.v0 (broadcastInDim S8x481x8x4x1 ![0, 1, 2, 3] bcast_S8x481x8x4_S8x481x8x4x1_0_1_2_3),
    TRef.nullary main_call1.v1 (iotaInDim S1x1x1x1x20 32 4),
    TRef.unary main_call1.v0 main_call1.v2 (broadcastInDim S8x481x8x4x20 ![0, 1, 2, 3, 4] bcast_S8x481x8x4x1_S8x481x8x4x20_0_1_2_3_4),
    TRef.unary main_call1.v1 main_call1.v3 (broadcastInDim S8x481x8x4x20 ![0, 1, 2, 3, 4] bcast_S1x1x1x1x20_S8x481x8x4x20_0_1_2_3_4),
    TRef.binary main_call1.v2 main_call1.v3 main_call1.v4 (cmpi .eq),
    TRef.unary main_call1.v4 main_call1.v5 (uitofp .f32),
    nullary main_cst (constant S_ .f32 0x00000000#32),
    binary main_v26 main_cst main_v27 ((fun x v => Host.reduceAdd x v reducesTo_S8x481x8x4x20_S8x481x8x20_d3 h_S_)),
    TRef.nullary main_call2.v0 (iotaInDim S8x481x8x20 32 3),
    TRef.nullary main_call2.cst (constant S_ .f32 0xFF800000#32),
    TRef.nullary main_call2.c (constantI S_ 32 0#32),
    TRef.quaternary (.of main_v27) main_call2.v0 main_call2.cst main_call2.c main_call2.v1_0 (fun x y u v j => (Host.argReduce reducer_argmax_f32_i32 x y u v reducesTo_S8x481x8x20_S8x481x8_d3 h_S_ j).1),
    TRef.quaternary (.of main_v27) main_call2.v0 main_call2.cst main_call2.c main_call2.v1_1 (fun x y u v j => (Host.argReduce reducer_argmax_f32_i32 x y u v reducesTo_S8x481x8x20_S8x481x8_d3 h_S_ j).2),
    reshape main_v17 main_v29 (rfl : (.f32 : EltTy) = .f32) shapeCasts_S8x481x32x256_S8x481x8x4x256,
    nullary main_cst_3 (constant S_ .f32 0x00000000#32),
    binary main_v29 main_cst_3 main_v30 ((fun x v => Host.reduceAdd x v reducesTo_S8x481x8x4x256_S8x481x8x256_d3 h_S_)),
    nullary main_cst_4 (constant S_ .f32 0x40800000#32),
    unary main_cst_4 main_v31 (broadcastInDim S8x481x8x256 ![] bcast_S_S8x481x8x256),
    binary main_v30 main_v31 main_v32 (Host.divf),
    nullary main_c_5 (constantI S_ 32 0#32),
    unary main_c_5 main_v33 (broadcastInDim S8x481x8 ![] bcast_S_S8x481x8),
    binary main_v28 main_v33 main_v34 (cmpi .slt),
    nullary main_c_6 (constantI S_ 32 20#32),
    unary main_c_6 main_v35 (broadcastInDim S8x481x8 ![] bcast_S_S8x481x8),
    binary main_v28 main_v35 main_v36 (addi),
    ternary main_v34 main_v36 main_v28 main_v37 (select),
    unary main_v37 main_v38 (broadcastInDim S8x481x8x1 ![0, 1, 2] bcast_S8x481x8_S8x481x8x1_0_1_2),
    binary main_v1 main_v38 main_v39 ((fun x i => Host.gather gather_S8x20x256_S8x481x8x1_S8x481x8x256_3_1_0_0_1_3_11256 x i)),
    binary main_v39 main_v32 main_v40 (mulf) ]

theorem main_eq (c : Dev nD) : main (F := F) c = seq ops := by
  simp only [main, fn_argmax.body, fn_one_hot.body, fn_argmax_0.body, seq, bind_assoc, pure_bind]
  rfl

attribute [local irreducible] Host.gather Host.reduceAdd Host.argReduce broadcastInDim shapeCast iotaInDim constant constantI select cmpi addi mulf Host.divf uitofp in
theorem out_eq (V : Valuation τ sig (Elt F)) :
    after ops V (main_v40 : DevRef τ sig)
      = out (V (main_arg0 : DevRef τ sig)) (V (main_arg1 : DevRef τ sig)) (V (main_arg2 : DevRef τ sig)) (V (main_arg3 : DevRef τ sig)) := by
  after_results_simp
  simp only [TRef.ofBuf_toBuf]
  unfold out rowOf pooled major counts oneHot lblUnf visUnf win win0 labels sim enc
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., nullary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., reshape_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The run: every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.Frames.lean ====
/-
  The three frames: each program runs, returns its arguments unchanged and leaves every semaphore at zero.
-/
module

public import proofs.«01_k».proof.Defs
public import proofs.«01_k».proof.Proof.ScMain
public import proofs.«01_k».proof.Proof.RefRun
public import proofs.«01_k».proof.Proof.Gen.Kernel
public import Idealize.ShloMosaic.Lib.Quiescent

@[expose] public section

noncomputable section

namespace Cert.Proof

open Idealize.ShloMosaic Idealize.SL.Sem

/-- The run with the result dropped, over any float values. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (Sc.run_main m ρ)

theorem frame_kernelIdeal : Cert.quiescent_KernelIdeal := fun m ρ _ => frame_any (F := Ideal) m ρ

/-- The two programs' body tables are one. -/
theorem bodies_eq {F : FTy → Type} [FloatOps F] : (Kernel.defs₀ (F := F)) = KernelIdeal.defs₀ (F := F) := by
  funext p ℓ a
  match p, ℓ, a with
  | .tc, 0, (t, s) => rfl
  | .tc, 1, a => rfl
  | .scScalar c, 0, a => rfl
  | .scScalar c, 1, a => rfl
  | .scVector c s, 0, a => rfl
  | .scVector c s, 1, a => rfl

theorem tables_eq {F : FTy → Type} [FloatOps F] : (Kernel.defs (F := F)) = KernelIdeal.defs (F := F) :=
  congrArg (fun d => (KernelIdeal.sc (F := F)).defs (Pipeline.defs KernelIdeal.pcfgs d)) bodies_eq

/-- The program of words: the same text as the idealized one, so the same run. -/
theorem frame_kernel : Cert.quiescent_Kernel := by
  intro m ρ _
  rw [tables_eq]
  exact frame_any (F := Bits) m ρ

/-- The reference: a straight line of host operations, none of which writes an argument. -/
theorem frame_reference : Cert.quiescent_ReferenceIdeal := fun m ρ _ =>
  (θ_run Cert.ReferenceIdeal.defs _ _).mono
    (fun r h => ⟨fun c => ⟨(h c Cert.ReferenceIdeal.main_arg0).trans (Ref.arg0_eq _), (h c Cert.ReferenceIdeal.main_arg1).trans (Ref.arg1_eq _),
      (h c Cert.ReferenceIdeal.main_arg2).trans (Ref.arg2_eq _), (h c Cert.ReferenceIdeal.main_arg3).trans (Ref.arg3_eq _)⟩,
        sem_eq_zero_of_no_sems (by decide) r.2⟩)
    (Ref.run_main (F := Ideal) m ρ)

theorem preserves : Cert.preserves_Kernel_KernelIdeal := trivial

end Cert.Proof

end
-- ==== Proof.ValBest.lean ====
/-
  The first index at which a row of twenty values is greatest, and the fold an argmax takes: it keeps the greater value and, of
  equal values, the smaller index, so whatever order it meets the row in it ends at that index.
-/
module

public import proofs.«01_k».proof.Proof.RefRun
public import Idealize.ShloMosaic.Lib.Pointwise

@[expose] public section

noncomputable section

namespace Cert.Proof.Val

open Idealize.ShloMosaic

/-- `l` is the first index where `f` is greatest. -/
def IsBest (f : Fin 20 → EReal) (l : Fin 20) : Prop := ∀ k, f k < f l ∨ (f k = f l ∧ l ≤ k)

theorem IsBest.unique {f : Fin 20 → EReal} {l l' : Fin 20} (h : IsBest f l) (h' : IsBest f l') : l = l' := by
  rcases h l' with a | ⟨a, b⟩ <;> rcases h' l with c | ⟨c, d⟩
  · exact absurd a (not_lt_of_gt c)
  · exact absurd a (c ▸ lt_irrefl _)
  · exact absurd c (a ▸ lt_irrefl _)
  · exact le_antisymm b d

theorem exists_best (f : Fin 20 → EReal) : ∃ l, IsBest f l := by
  obtain ⟨m, -, hm⟩ := Finset.exists_max_image Finset.univ f ⟨0, Finset.mem_univ _⟩
  have hne : (Finset.univ.filter fun k => f k = f m).Nonempty := ⟨m, by simp⟩
  refine ⟨(Finset.univ.filter fun k => f k = f m).min' hne, fun k => ?_⟩
  have h1 : f ((Finset.univ.filter fun k => f k = f m).min' hne) = f m :=
    (Finset.mem_filter.mp (Finset.min'_mem _ hne)).2
  rw [h1]
  rcases lt_or_eq_of_le (hm k (Finset.mem_univ _)) with h | h
  · exact .inl h
  · exact .inr ⟨h, Finset.min'_le _ _ (by simp [h])⟩

/-- The first index where `f` is greatest. -/
def best (f : Fin 20 → EReal) : Fin 20 := (exists_best f).choose
theorem best_spec (f : Fin 20 → EReal) : IsBest f (best f) := (exists_best f).choose_spec
theorem IsBest.eq_best {f : Fin 20 → EReal} {l : Fin 20} (h : IsBest f l) : l = best f := h.unique (best_spec f)
theorem le_best (f : Fin 20 → EReal) (k : Fin 20) : f k ≤ f (best f) := (best_spec f k).elim le_of_lt fun h => h.1.le

/-! ## The argmax's fold -/

/-- `a` goes before `b`: greater, or equal with the smaller index. -/
def Before (a b : EReal × BitVec 32) : Prop := b.1 < a.1 ∨ (b.1 = a.1 ∧ a.2.toInt ≤ b.2.toInt)

theorem Before.refl (a : EReal × BitVec 32) : Before a a := .inr ⟨rfl, le_refl _⟩
theorem Before.trans {a b c : EReal × BitVec 32} (h : Before a b) (h' : Before b c) : Before a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

abbrev red : EReal × BitVec 32 → EReal × BitVec 32 → EReal × BitVec 32 := Cert.ReferenceIdeal.reducer_argmax_f32_i32 (F := Ideal)

/-- One step keeps one of the two, and it goes before both. -/
theorem red_spec (a b : EReal × BitVec 32) : (red a b = a ∨ red a b = b) ∧ Before (red a b) a ∧ Before (red a b) b := by
  obtain ⟨a1, a2⟩ := a
  obtain ⟨b1, b2⟩ := b
  rcases lt_trichotomy a1 b1 with h | h | h
  · have e : red (a1, a2) (b1, b2) = (b1, b2) := by
      simp [red, Cert.ReferenceIdeal.reducer_argmax_f32_i32, Ideal.cmpf_def, Ideal.cmp, IntOp.ori, IntOp.andi, Scalar.select, not_lt_of_gt h, h.ne]
    rw [e]
    exact ⟨.inr rfl, .inl h, .refl _⟩
  · subst h
    by_cases hi : a2.toInt < b2.toInt
    · have e : red (a1, a2) (a1, b2) = (a1, a2) := by
        simp [red, Cert.ReferenceIdeal.reducer_argmax_f32_i32, Ideal.cmpf_def, Ideal.cmp, IntOp.ori, IntOp.andi, IntOp.cmpi, Scalar.select, BitVec.slt, hi]
      rw [e]
      exact ⟨.inl rfl, .refl _, .inr ⟨rfl, hi.le⟩⟩
    · have e : red (a1, a2) (a1, b2) = (a1, b2) := by
        simp [red, Cert.ReferenceIdeal.reducer_argmax_f32_i32, Ideal.cmpf_def, Ideal.cmp, IntOp.ori, IntOp.andi, IntOp.cmpi, Scalar.select, BitVec.slt, hi]
      rw [e]
      exact ⟨.inr rfl, .inr ⟨rfl, not_lt.mp hi⟩, .refl _⟩
  · have e : red (a1, a2) (b1, b2) = (a1, a2) := by
      simp [red, Cert.ReferenceIdeal.reducer_argmax_f32_i32, Ideal.cmpf_def, Ideal.cmp, IntOp.ori, IntOp.andi, Scalar.select, h, h.ne']
    rw [e]
    exact ⟨.inl rfl, .refl _, .inl h⟩

theorem foldl_red (L : List (EReal × BitVec 32)) (a : EReal × BitVec 32) :
    (L.foldl red a = a ∨ L.foldl red a ∈ L) ∧ Before (L.foldl red a) a ∧ ∀ b ∈ L, Before (L.foldl red a) b := by
  induction L generalizing a with
  | nil => exact ⟨.inl rfl, .refl _, by simp⟩
  | cons x L ih =>
    obtain ⟨h1, h2, h3⟩ := ih (red a x)
    obtain ⟨r1, r2, r3⟩ := red_spec a x
    rw [List.foldl_cons]
    refine ⟨?_, h2.trans r2, ?_⟩
    · rcases h1 with h1 | h1
      · rcases r1 with r1 | r1
        · exact .inl (h1.trans r1)
        · exact .inr (by rw [h1, r1]; exact List.mem_cons_self)
      · exact .inr (List.mem_cons_of_mem _ h1)
    · intro b hb
      rcases List.mem_cons.mp hb with rfl | hb
      · exact h2.trans r3
      · exact h3 b hb

theorem toInt_lbl (l : Fin 20) : (BitVec.ofNat 32 l.val).toInt = l.val := by revert l; decide
theorem lbl_inj {l k : Fin 20} (h : BitVec.ofNat 32 l.val = BitVec.ofNat 32 k.val) : l = k :=
  Fin.ext (by have := congrArg BitVec.toInt h; rw [toInt_lbl, toInt_lbl] at this; exact_mod_cast this)

/-- A fold over the row's pairs, in any order and from the least value, ends at the row's best index. -/
theorem foldl_best (f : Fin 20 → EReal) (L : List (EReal × BitVec 32)) (hin : ∀ k, (f k, BitVec.ofNat 32 k.val) ∈ L)
    (hout : ∀ p ∈ L, ∃ k : Fin 20, p = (f k, BitVec.ofNat 32 k.val)) :
    (L.foldl red (⊥, 0#32)).2 = BitVec.ofNat 32 (best f).val := by
  obtain ⟨h1, -, h3⟩ := foldl_red L (⊥, 0#32)
  rcases h1 with h1 | h1
  · rw [h1]
    have hb : IsBest f 0 := fun k => .inr ⟨by
      have hall : ∀ k, f k = ⊥ := fun k => by
        rcases h1 ▸ h3 _ (hin k) with h | ⟨h, -⟩
        · exact absurd h not_lt_bot
        · exact h
      rw [hall, hall], Fin.zero_le _⟩
    rw [← hb.eq_best]; rfl
  · obtain ⟨l, hl⟩ := hout _ h1
    have hb : IsBest f l := fun k => by
      rcases hl ▸ h3 _ (hin k) with h | ⟨h, i⟩
      · exact .inl h
      · refine .inr ⟨h, ?_⟩
        simp only [toInt_lbl] at i
        exact_mod_cast i
    rw [hl, hb.eq_best]

/-! ## The kernel's label: the least index among those at the maximum -/

theorem minsi_spec (a b : BitVec 32) : (IntOp.minsi a b = a ∨ IntOp.minsi a b = b)
    ∧ (IntOp.minsi a b).toInt ≤ a.toInt ∧ (IntOp.minsi a b).toInt ≤ b.toInt := by
  unfold IntOp.minsi
  by_cases h : a.toInt < b.toInt
  · simp [BitVec.slt, BitVec.sle, h, h.le]
  · have := not_lt.mp h
    simp [BitVec.slt, BitVec.sle, h, this]

theorem fold_minsi (g : Fin 20 → BitVec 32) (c : BitVec 32) (s : Finset (Fin 20)) :
    (s.fold IntOp.minsi c g = c ∨ ∃ k, s.fold IntOp.minsi c g = g k) ∧ ∀ k ∈ s, (s.fold IntOp.minsi c g).toInt ≤ (g k).toInt := by
  induction s using Finset.induction_on with
  | empty => simp
  | insert a s ha ih =>
    rw [Finset.fold_insert ha]
    obtain ⟨h1, h2⟩ := ih
    obtain ⟨r1, r2, r3⟩ := minsi_spec (g a) (s.fold IntOp.minsi c g)
    refine ⟨?_, fun k hk => ?_⟩
    · rcases r1 with r1 | r1
      · exact .inr ⟨a, r1⟩
      · rw [r1]; exact h1
    · rcases Finset.mem_insert.mp hk with rfl | hk
      · exact r2
      · exact r3.trans (h2 k hk)

theorem fold_max_best (f : Fin 20 → EReal) : Finset.univ.fold max ⊥ f = f (best f) := by
  apply le_antisymm
  · rw [Finset.fold_max_le]
    exact ⟨bot_le, fun k _ => le_best f k⟩
  · rw [Finset.le_fold_max]
    exact .inr ⟨best f, Finset.mem_univ _, le_refl _⟩

/-- The least index whose value is the maximum, the others at twenty. -/
theorem min_label (f : Fin 20 → EReal) :
    Finset.univ.fold IntOp.minsi 2147483647#32 (fun k : Fin 20 => if f k = f (best f) then BitVec.ofNat 32 k.val else 20#32)
      = BitVec.ofNat 32 (best f).val := by
  obtain ⟨h1, h2⟩ := fold_minsi (fun k : Fin 20 => if f k = f (best f) then BitVec.ofNat 32 k.val else 20#32) 2147483647#32 Finset.univ
  have hb := h2 (best f) (Finset.mem_univ _)
  rw [if_pos rfl, toInt_lbl] at hb
  have hlt := (best f).isLt
  rcases h1 with h1 | ⟨k, h1⟩
  · rw [h1] at hb
    have : (2147483647#32 : BitVec 32).toInt = 2147483647 := by decide
    omega
  · rw [h1] at hb ⊢
    split_ifs at hb ⊢ with hk
    · rw [toInt_lbl] at hb
      rcases best_spec f k with h | ⟨-, h⟩
      · exact absurd h (hk ▸ lt_irrefl _)
      · have : k = best f := le_antisymm (by exact_mod_cast hb) h
        rw [this]
    · have : (20#32 : BitVec 32).toInt = 20 := by decide
      omega

end Cert.Proof.Val

end
-- ==== Proof.ValMajor.lean ====
/-
  The word that occurs most among four. The kernel packs each clip's count and label in one number, 32 times the count less the label,
  takes the greatest and reads the label off its last five bits; that is the first index at which the count is greatest.
-/
module

public import proofs.«01_k».proof.Proof.ValBest

@[expose] public section

noncomputable section

namespace Cert.Proof.Val

open Idealize.ShloMosaic

/-- A label as a word. -/
abbrev wd (l : Fin 20) : BitVec 32 := BitVec.ofNat 32 l.val

/-- One, or zero, as a number. -/
def ind (p : Prop) [Decidable p] : ℕ := if p then 1 else 0

/-- How often `k` occurs among four labels. -/
def cnt (a b c d k : Fin 20) : ℕ := ind (a = k) + ind (b = k) + ind (c = k) + ind (d = k)

/-- The word that occurs most among four, the smallest of those that do. -/
def most (a b c d : Fin 20) : Fin 20 := best fun k => ((cnt a b c d k : ℕ) : EReal)

theorem widen_eq (a b : Fin 20) : BitVec.setWidth 32 (IntOp.cmpi .eq (wd a) (wd b)) = BitVec.ofNat 32 (ind (a = b)) := by
  by_cases h : a = b
  · subst h; simp [IntOp.cmpi, ind]
  · have : wd a ≠ wd b := fun e => h (lbl_inj e)
    show BitVec.setWidth 32 (BitVec.ofBool (wd a == wd b)) = _
    rw [beq_eq_false_iff_ne.mpr this]
    simp [ind, h]

/-- A count and its label in one number. -/
def pack (n l : ℕ) : ℕ := 32 * n - l

theorem pack_word (n l : ℕ) (hl : l < 20) (h1 : 1 ≤ n) (h4 : n ≤ 4) :
    IntOp.subi (IntOp.muli (BitVec.ofNat 32 n) 32#32) (BitVec.ofNat 32 l) = BitVec.ofNat 32 (pack n l) := by
  have hn : n < 5 := by omega
  have key : ∀ n < 5, ∀ l < 20, 1 ≤ n → IntOp.subi (IntOp.muli (BitVec.ofNat 32 n) 32#32) (BitVec.ofNat 32 l) = BitVec.ofNat 32 (pack n l) := by
    decide +kernel
  exact key n hn l hl h1

theorem maxsi_word (x y : ℕ) (hx : x < 1000) (hy : y < 1000) :
    IntOp.maxsi (BitVec.ofNat 32 x) (BitVec.ofNat 32 y) = BitVec.ofNat 32 (max x y) := by
  have ex : (BitVec.ofNat 32 x).toInt = x := by
    rw [BitVec.toInt_eq_toNat_cond, BitVec.toNat_ofNat, Nat.mod_eq_of_lt (by omega), if_pos (by omega)]
  have ey : (BitVec.ofNat 32 y).toInt = y := by
    rw [BitVec.toInt_eq_toNat_cond, BitVec.toNat_ofNat, Nat.mod_eq_of_lt (by omega), if_pos (by omega)]
  unfold IntOp.maxsi
  rw [BitVec.slt_eq_decide, ex, ey]
  by_cases h : y < x
  · rw [if_pos (by simpa using h), max_eq_left h.le]
  · rw [if_neg (by simpa using h), max_eq_right (not_lt.mp h)]

theorem unpack_word (n l : ℕ) (hl : l < 20) (h1 : 1 ≤ n) (h4 : n ≤ 4) :
    IntOp.andi (IntOp.subi 0#32 (BitVec.ofNat 32 (pack n l))) 31#32 = BitVec.ofNat 32 l := by
  have hn : n < 5 := by omega
  have key : ∀ n < 5, ∀ l < 20, 1 ≤ n → IntOp.andi (IntOp.subi 0#32 (BitVec.ofNat 32 (pack n l))) 31#32 = BitVec.ofNat 32 l := by
    decide +kernel
  exact key n hn l hl h1

theorem ind_le (p : Prop) [Decidable p] : ind p ≤ 1 := by unfold ind; split <;> omega
theorem ind_comm (a b : Fin 20) : ind (a = b) = ind (b = a) := by unfold ind; simp only [eq_comm]
theorem ind_self (a : Fin 20) : ind (a = a) = 1 := if_pos rfl

theorem cnt_pos {a b c d k : Fin 20} (h : k = a ∨ k = b ∨ k = c ∨ k = d) : 1 ≤ cnt a b c d k := by
  unfold cnt
  rcases h with rfl | rfl | rfl | rfl <;> rw [ind_self] <;> omega
theorem cnt_le (a b c d k : Fin 20) : cnt a b c d k ≤ 4 := by
  unfold cnt
  have := ind_le (a = k); have := ind_le (b = k); have := ind_le (c = k); have := ind_le (d = k); omega
theorem cnt_zero {a b c d k : Fin 20} (h : ¬(k = a ∨ k = b ∨ k = c ∨ k = d)) : cnt a b c d k = 0 := by
  simp only [not_or] at h
  unfold cnt ind
  rw [if_neg (Ne.symm h.1), if_neg (Ne.symm h.2.1), if_neg (Ne.symm h.2.2.1), if_neg (Ne.symm h.2.2.2)]

/-- A label among the four whose packed number is the greatest is the most frequent word. -/
theorem most_of_pack {a b c d l : Fin 20} (hl : l = a ∨ l = b ∨ l = c ∨ l = d)
    (h : ∀ k, (k = a ∨ k = b ∨ k = c ∨ k = d) → pack (cnt a b c d k) k.val ≤ pack (cnt a b c d l) l.val) : l = most a b c d := by
  refine IsBest.eq_best fun k => ?_
  have hp := cnt_pos hl
  by_cases hk : k = a ∨ k = b ∨ k = c ∨ k = d
  · have h' := h k hk
    have := cnt_pos hk
    have := l.isLt
    have := k.isLt
    unfold pack at h'
    rcases lt_trichotomy (cnt a b c d k) (cnt a b c d l) with e | e | e
    · exact .inl (by exact_mod_cast e)
    · refine .inr ⟨by rw [e], ?_⟩
      rw [e] at h'
      exact Fin.le_def.mpr (by omega)
    · omega
  · rw [cnt_zero hk]
    exact .inl (by exact_mod_cast hp)

/-- The kernel's arithmetic on the packed numbers. -/
theorem most_word (a b c d : Fin 20) :
    IntOp.andi (IntOp.subi 0#32 (IntOp.maxsi
      (IntOp.maxsi (BitVec.ofNat 32 (pack (cnt a b c d a) a.val)) (BitVec.ofNat 32 (pack (cnt a b c d b) b.val)))
      (IntOp.maxsi (BitVec.ofNat 32 (pack (cnt a b c d c) c.val)) (BitVec.ofNat 32 (pack (cnt a b c d d) d.val))))) 31#32
      = wd (most a b c d) := by
  have hb : ∀ k, pack (cnt a b c d k) k.val < 1000 := fun k => by
    have := cnt_le a b c d k; unfold pack; omega
  rw [maxsi_word _ _ (hb a) (hb b), maxsi_word _ _ (hb c) (hb d), maxsi_word _ _ (max_lt (hb a) (hb b)) (max_lt (hb c) (hb d))]
  set M := max (max (pack (cnt a b c d a) a.val) (pack (cnt a b c d b) b.val)) (max (pack (cnt a b c d c) c.val) (pack (cnt a b c d d) d.val)) with hM
  have hge : ∀ k, (k = a ∨ k = b ∨ k = c ∨ k = d) → pack (cnt a b c d k) k.val ≤ M := by
    intro k hk
    rcases hk with rfl | rfl | rfl | rfl <;> simp [hM]
  have hex : ∃ l, (l = a ∨ l = b ∨ l = c ∨ l = d) ∧ M = pack (cnt a b c d l) l.val := by
    rcases max_choice (max (pack (cnt a b c d a) a.val) (pack (cnt a b c d b) b.val)) (max (pack (cnt a b c d c) c.val) (pack (cnt a b c d d) d.val)) with e | e
    · rcases max_choice (pack (cnt a b c d a) a.val) (pack (cnt a b c d b) b.val) with f | f
      · exact ⟨a, .inl rfl, e.trans f⟩
      · exact ⟨b, .inr (.inl rfl), e.trans f⟩
    · rcases max_choice (pack (cnt a b c d c) c.val) (pack (cnt a b c d d) d.val) with f | f
      · exact ⟨c, .inr (.inr (.inl rfl)), e.trans f⟩
      · exact ⟨d, .inr (.inr (.inr rfl)), e.trans f⟩
  obtain ⟨l, hl, e⟩ := hex
  rw [e, unpack_word _ _ l.isLt (cnt_pos hl) (cnt_le _ _ _ _ _)]
  rw [most_of_pack hl fun k hk => e ▸ hge k hk]

/-- The whole of the kernel's majority, from the four labels' words. -/
theorem kernel_most (a b c d : Fin 20) :
    IntOp.andi (IntOp.subi 0#32 (IntOp.maxsi
      (IntOp.maxsi
        (IntOp.subi (IntOp.muli (IntOp.addi (IntOp.addi (IntOp.addi 1#32 (BitVec.setWidth 32 (IntOp.cmpi .eq (wd a) (wd b)))) (BitVec.setWidth 32 (IntOp.cmpi .eq (wd a) (wd c)))) (BitVec.setWidth 32 (IntOp.cmpi .eq (wd a) (wd d)))) 32#32) (wd a))
        (IntOp.subi (IntOp.muli (IntOp.addi (IntOp.addi (IntOp.addi 1#32 (BitVec.setWidth 32 (IntOp.cmpi .eq (wd b) (wd a)))) (BitVec.setWidth 32 (IntOp.cmpi .eq (wd b) (wd c)))) (BitVec.setWidth 32 (IntOp.cmpi .eq (wd b) (wd d)))) 32#32) (wd b)))
      (IntOp.maxsi
        (IntOp.subi (IntOp.muli (IntOp.addi (IntOp.addi (IntOp.addi 1#32 (BitVec.setWidth 32 (IntOp.cmpi .eq (wd c) (wd a)))) (BitVec.setWidth 32 (IntOp.cmpi .eq (wd c) (wd b)))) (BitVec.setWidth 32 (IntOp.cmpi .eq (wd c) (wd d)))) 32#32) (wd c))
        (IntOp.subi (IntOp.muli (IntOp.addi (IntOp.addi (IntOp.addi 1#32 (BitVec.setWidth 32 (IntOp.cmpi .eq (wd d) (wd a)))) (BitVec.setWidth 32 (IntOp.cmpi .eq (wd d) (wd b)))) (BitVec.setWidth 32 (IntOp.cmpi .eq (wd d) (wd c)))) 32#32) (wd d))))) 31#32
      = wd (most a b c d) := by
  have e1 : ∀ x y z : ℕ, IntOp.addi (IntOp.addi (IntOp.addi 1#32 (BitVec.ofNat 32 x)) (BitVec.ofNat 32 y)) (BitVec.ofNat 32 z)
      = BitVec.ofNat 32 (1 + x + y + z) := fun x y z => by
    unfold IntOp.addi; simp only [BitVec.ofNat_add]
  have ca : 1 + ind (a = b) + ind (a = c) + ind (a = d) = cnt a b c d a := by
    unfold cnt; rw [ind_self, ind_comm a b, ind_comm a c, ind_comm a d]
  have cb : 1 + ind (b = a) + ind (b = c) + ind (b = d) = cnt a b c d b := by
    unfold cnt; rw [ind_self, ind_comm b a, ind_comm b c, ind_comm b d]; omega
  have cc : 1 + ind (c = a) + ind (c = b) + ind (c = d) = cnt a b c d c := by
    unfold cnt; rw [ind_self, ind_comm c a, ind_comm c b, ind_comm c d]; omega
  have cd : 1 + ind (d = a) + ind (d = b) + ind (d = c) = cnt a b c d d := by
    unfold cnt; rw [ind_self, ind_comm d a, ind_comm d b, ind_comm d c]; omega
  simp only [widen_eq, e1, ca, cb, cc, cd]
  rw [pack_word _ _ a.isLt (cnt_pos (.inl rfl)) (cnt_le _ _ _ _ _), pack_word _ _ b.isLt (cnt_pos (.inr (.inl rfl))) (cnt_le _ _ _ _ _),
    pack_word _ _ c.isLt (cnt_pos (.inr (.inr (.inl rfl)))) (cnt_le _ _ _ _ _),
    pack_word _ _ d.isLt (cnt_pos (.inr (.inr (.inr rfl)))) (cnt_le _ _ _ _ _)]
  exact most_word a b c d

end Cert.Proof.Val

end
-- ==== Proof.ValKernel.lean ====
/-
  The rows the TensorCore kernel computes, at exact arithmetic: the encoded row of the word that occurs most among four clips,
  times a quarter of the four clips' sum.
-/
module

public import proofs.«01_k».proof.Proof.ScModRun
public import proofs.«01_k».proof.Proof.ValMajor

@[expose] public section

set_option maxRecDepth 16384

noncomputable section

namespace Cert.Proof.Val

open Cert.KernelIdeal Cert.KernelIdeal.Gen
open Idealize.ShloMosaic

variable (x0 : Vec Ideal S1x512x256 .f32) (x1 : Vec Ideal S1x20x256 .f32) (x2 x3 : Vec Ideal S256x256 .f32)

/-- The similarities of one clip to the twenty words. -/
def simRow (r : Fin 512) (l : Fin 20) : EReal :=
  ∑ k : Fin 256, x0 (ix3 0 r k) * ∑ k' : Fin 256, x1 (ix3 0 l k') * x2 (ix2 k' k)

/-- The clip's label. -/
def lab (r : Fin 512) : Fin 20 := best (simRow x0 x1 x2 r)

theorem ofBits_negInf : Ideal.ofBits .f32 0xFF800000#32 = ⊥ := by simp [Ideal.ofBits, Ideal.ieee]

theorem label_word (r : Fin 512) : k0_pay6 x0 x1 x2 (ix2 r 0) = wd (lab x0 x1 x2 r) := by
  pointwise [k0_pay6, k0_pay3, k0_pay4]
  have e := min_label (simRow x0 x1 x2 r)
  rw [← fold_max_best (simRow x0 x1 x2 r), ← ofBits_negInf] at e
  exact e

/-- The four clips' most frequent word. -/
abbrev mostAt (r : Fin 509) : Fin 20 :=
  most (lab x0 x1 x2 ⟨r.val, by omega⟩) (lab x0 x1 x2 ⟨1 + r.val, by omega⟩) (lab x0 x1 x2 ⟨2 + r.val, by omega⟩) (lab x0 x1 x2 ⟨3 + r.val, by omega⟩)

theorem onehot_word (m : Fin 20) (n : ℕ) (hn : n < 32) :
    (FloatOps.sitofp .f32 (BitVec.setWidth 32 (IntOp.cmpi .eq (wd m) (BitVec.ofNat 32 n))) : Ideal .f32) = if m.val = n then (1 : EReal) else 0 := by
  have hs : ∀ w : BitVec 32, (FloatOps.sitofp .f32 w : Ideal .f32) = (((w.toInt : ℤ) : ℝ) : EReal) := fun _ => rfl
  rw [hs]
  by_cases h : m.val = n
  · subst h; simp [IntOp.cmpi]
  · have : wd m ≠ BitVec.ofNat 32 n := fun e => h (by
      have := congrArg BitVec.toNat e
      rw [BitVec.toNat_ofNat, BitVec.toNat_ofNat, Nat.mod_eq_of_lt (by omega), Nat.mod_eq_of_lt (by omega)] at this
      exact this)
    have e : IntOp.cmpi .eq (wd m) (BitVec.ofNat 32 n) = 0#1 := by
      show BitVec.ofBool (wd m == BitVec.ofNat 32 n) = _
      rw [beq_eq_false_iff_ne.mpr this]; rfl
    rw [e]
    simp [h]

/-- A row of zeros and a one times the table is the table's row. -/
theorem pick_row (m : Fin 20) (g : Fin 20 → EReal) :
    ∑ x : Fin 20, (FloatOps.sitofp .f32 (BitVec.setWidth 32 (IntOp.cmpi .eq (wd m) (BitVec.ofNat 32 x.val))) : Ideal .f32) * g x = g m := by
  rw [Finset.sum_eq_single m]
  · rw [onehot_word _ _ (by omega), if_pos rfl, one_mul]
  · intro b _ hb
    rw [onehot_word _ _ (by omega), if_neg (fun e => hb (Fin.ext e.symm)), zero_mul]
  · exact fun h => absurd (Finset.mem_univ _) h

theorem picked (r : Fin 509) (l : Fin 256) :
    k0_pay14 (k0_pay5 x1 x3) (k0_pay7 x0 x1 x2) (k0_pay8 x0 x1 x2) (k0_pay9 x0 x1 x2) (k0_pay10 x0 x1 x2)
      (k0_pay11 x0 x1 x2) (k0_pay12 x0 x1 x2) (k0_pay13 x0 x1 x2) (ix2 r l)
      = ∑ k : Fin 256, x1 (ix3 0 (mostAt x0 x1 x2 r) k) * x3 (ix2 k l) := by
  pointwise [k0_pay14, k0_pay11, k0_pay12, k0_pay13, k0_pay7, k0_pay8, k0_pay9, k0_pay10, label_word]
  simp only [kernel_most]
  rw [pick_row (mostAt x0 x1 x2 r) fun x => k0_pay5 x1 x3 (ix2 x l)]
  simp only [mul_zero, Finset.sum_const_zero, add_zero]
  pointwise [k0_pay5, k0_pay4]

/-- A row of the kernel's result. -/
theorem modRows_apply (r : Fin 509) (l : Fin 256) :
    Sc.modRows x0 x1 x2 x3 (ix2 r l)
      = (∑ k : Fin 256, x1 (ix3 0 (mostAt x0 x1 x2 r) k) * x3 (ix2 k l))
        * ((x0 (ix3 0 ⟨r.val, by omega⟩ l) + x0 (ix3 0 ⟨1 + r.val, by omega⟩ l) + x0 (ix3 0 ⟨2 + r.val, by omega⟩ l) + x0 (ix3 0 ⟨3 + r.val, by omega⟩ l))
          * Ideal.ofBits .f32 0x3E800000#32) := by
  have h := picked x0 x1 x2 x3 r l
  unfold Sc.modRows
  generalize k0_pay14 (k0_pay5 x1 x3) (k0_pay7 x0 x1 x2) (k0_pay8 x0 x1 x2) (k0_pay9 x0 x1 x2) (k0_pay10 x0 x1 x2)
      (k0_pay11 x0 x1 x2) (k0_pay12 x0 x1 x2) (k0_pay13 x0 x1 x2) = v at h ⊢
  pointwise [k0_pay1, k0_pay15, k0_pay16, k0_pay3]
  rw [h]

end Cert.Proof.Val

end
-- ==== Proof.ValRefTake.lean ====
/-
  The reference's label picks and its three gathers, read at an index: an argmax is the first best index of its row, a window reads
  the clip its position names, and the row gather reads the encoded row a label names.
-/
module

public import proofs.«01_k».proof.Proof.ValMajor

@[expose] public section

set_option maxRecDepth 16384

noncomputable section

namespace Cert.Proof.Val

open Cert.ReferenceIdeal Cert.ReferenceIdeal.Gen
open Idealize.ShloMosaic

theorem ofBits_negInf' : Ideal.ofBits .f32 0xFF800000#32 = ⊥ := by simp [Ideal.ofBits, Ideal.ieee]

theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ (x i, y i) = p := by
  unfold Host.argReduceFiber
  simp only [List.mem_map, List.mem_filter, List.mem_finRange, true_and, decide_eq_true_eq]
  constructor
  · rintro ⟨n, h1, h2⟩; exact ⟨_, h1, h2⟩
  · rintro ⟨i, h1, h2⟩; exact ⟨s.rowMajor i, by rw [Equiv.symm_apply_apply]; exact h1, by rw [Equiv.symm_apply_apply]; exact h2⟩

/-- An argmax over a row of twenty, its coordinates given by `row`. -/
theorem arg_best {s t : Shape} {axes : List (Fin s.rank)} (x : FVec Ideal s .f32) (y : s.Idx → BitVec 32) (h : s.ReducesTo axes t)
    (hu : 0 < S_.numel) (j : t.Idx) (row : Fin 20 → s.Idx) (hrow : ∀ k, h.drop (row k) = j) (hall : ∀ i, h.drop i = j → ∃ k, i = row k)
    (hy : ∀ k, y (row k) = wd k) :
    (Host.argReduce (F := Ideal) reducer_argmax_f32_i32 x y (constant S_ .f32 0xFF800000#32) (constantI S_ 32 0#32) h hu j).2
      = wd (best fun k => x (row k)) := by
  rw [Ideal.argReduce_eq_reduce2, Host.reduce2_eq_foldl_fiber]
  have e : ((constant S_ .f32 0xFF800000#32 : FVec Ideal S_ .f32) (Shape.Idx.first hu), (constantI S_ 32 0#32 : IVec S_ 32) (Shape.Idx.first hu))
      = ((⊥ : EReal), 0#32) := by
    show (Ideal.ofBits .f32 0xFF800000#32, 0#32) = _
    rw [ofBits_negInf']
  rw [e]
  refine foldl_best (fun k => x (row k)) _ (fun k => (mem_fiber ..).mpr ⟨row k, hrow k, by rw [hy]⟩) fun p hp => ?_
  obtain ⟨i, hi, rfl⟩ := (mem_fiber ..).mp hp
  obtain ⟨k, rfl⟩ := hall i hi
  exact ⟨k, by rw [hy]⟩

theorem labels_apply (s : FVec Ideal S8x512x20 .f32) (b : Fin 8) (t : Fin 512) :
    Ref.labels s (ix2 b t) = wd (best fun k => s (ix3 b t k)) := by
  unfold Ref.labels
  refine arg_best s _ _ _ (ix2 b t) (fun k => ix3 b t k) (fun k => ?_) (fun i hi => ?_) (fun k => ?_)
  · funext a; fin_cases a <;> rfl
  · refine ⟨i 2, ?_⟩
    rw [eq_ix3 i] at hi ⊢
    have h0 : i 0 = b := congrFun hi 0
    have h1 : i 1 = t := congrFun hi 1
    subst h0; subst h1; rfl
  · pointwise []

theorem major_apply (c : FVec Ideal S8x481x8x20 .f32) (b : Fin 8) (w : Fin 481) (k : Fin 8) :
    Ref.major c (ix3 b w k) = wd (best fun l => c (ix4 b w k l)) := by
  unfold Ref.major
  refine arg_best c _ _ _ (ix3 b w k) (fun l => ix4 b w k l) (fun l => ?_) (fun i hi => ?_) (fun l => ?_)
  · funext a; fin_cases a <;> rfl
  · refine ⟨i 3, ?_⟩
    rw [eq_ix4 i] at hi ⊢
    have h0 : i 0 = b := congrFun hi 0
    have h1 : i 1 = w := congrFun hi 1
    have h2 : i 2 = k := congrFun hi 2
    subst h0; subst h1; subst h2; rfl
  · pointwise []

/-! ## The gathers -/

theorem toInt_small (n : ℕ) (h : n < 1000) : (BitVec.ofNat 32 n).toInt = n := by
  rw [BitVec.toInt_eq_toNat_cond, BitVec.toNat_ofNat, Nat.mod_eq_of_lt (by omega), if_pos (by omega)]

theorem slt_zero (n : ℕ) (h : n < 1000) : IntOp.cmpi .slt (BitVec.ofNat 32 n) 0#32 = 0#1 := by
  show BitVec.ofBool (BitVec.slt _ _) = _
  rw [BitVec.slt_eq_decide, toInt_small n h]
  have : ¬ ((n : ℤ) < (0#32 : BitVec 32).toInt) := by
    have : (0#32 : BitVec 32).toInt = 0 := by decide
    omega
  rw [decide_eq_false this]; rfl

theorem win_apply (w : Fin 481) (i : Fin 32) : Ref.win (ix3 w i 0) = BitVec.ofNat 32 (w.val + i.val) := by
  have h0 : Ref.win0 (ix2 w i) = BitVec.ofNat 32 (w.val + i.val) := by
    pointwise [Ref.win0]
    unfold IntOp.addi
    rw [BitVec.ofNat_add]
  pointwise [Ref.win, h0]
  rw [slt_zero _ (by omega)]
  rfl

end Cert.Proof.Val

end
-- ==== Proof.ValRef.lean ====
/-
  The reference's result read at an index: the encoded row of the word that occurs most among a chunk's four clips, times the
  clips' mean.
-/
module

public import proofs.«01_k».proof.Proof.ValRefTake

@[expose] public section

set_option maxRecDepth 16384

noncomputable section

namespace Cert.Proof.Val

open Cert.ReferenceIdeal Cert.ReferenceIdeal.Gen
open Idealize.ShloMosaic

abbrev dVis := gather_S8x512x256_S481x32x1_S8x481x32x256_03_1_n_n_1_2_81256
abbrev dLbl := gather_S8x512_S481x32x1_S8x481x32_0_1_n_n_1_2_81
abbrev dRow := gather_S8x20x256_S8x481x8x1_S8x481x8x256_3_1_0_0_1_3_11256

theorem gatherVis (x : FVec Ideal S8x512x256 .f32) (idx : IVec S481x32x1 32) (b : Fin 8) (w : Fin 481) (i : Fin 32) (c : Fin 256) (t : Fin 512)
    (h : idx (ix3 w i 0) = BitVec.ofNat 32 t.val) : Host.gather dVis x idx (ix4 b w i c) = x (ix3 b t c) := by
  unfold Host.gather
  congr 1
  funext a
  refine Fin.ext ?_
  show dVis.start (ix4 b w i c) idx a + dVis.batchCoord (ix4 b w i c) a + dVis.offCoord (ix4 b w i c) a = _
  have hs : dVis.start (ix4 b w i c) idx 1 = t.val := by
    unfold GatherDims.start
    rw [dif_pos (show (1 : Fin 3) ∈ dVis.startIndexMap from List.mem_singleton.mpr rfl)]
    have hsi : dVis.siIdx (ix4 b w i c) ⟨List.idxOf (1 : Fin 3) dVis.startIndexMap, List.idxOf_lt_length_iff.2 (List.mem_singleton.mpr rfl)⟩ = ix3 w i 0 := by
      funext e; refine Fin.ext ?_
      match e with
      | ⟨0, _⟩ => rfl
      | ⟨1, _⟩ => rfl
      | ⟨2, _⟩ => rfl
    rw [hsi, h, toInt_small _ (by omega)]
    show min t.val 511 = t.val
    omega
  match a with
  | ⟨0, _⟩ => exact Nat.zero_add _
  | ⟨1, _⟩ => exact (congrArg (fun n => n + 0 + 0) hs).trans rfl
  | ⟨2, _⟩ => exact Nat.zero_add _

theorem gatherLbl (x : IVec S8x512 32) (idx : IVec S481x32x1 32) (b : Fin 8) (w : Fin 481) (i : Fin 32) (t : Fin 512)
    (h : idx (ix3 w i 0) = BitVec.ofNat 32 t.val) : Host.gather dLbl x idx (ix3 b w i) = x (ix2 b t) := by
  unfold Host.gather
  congr 1
  funext a
  refine Fin.ext ?_
  show dLbl.start (ix3 b w i) idx a + dLbl.batchCoord (ix3 b w i) a + dLbl.offCoord (ix3 b w i) a = _
  have hs : dLbl.start (ix3 b w i) idx 1 = t.val := by
    unfold GatherDims.start
    rw [dif_pos (show (1 : Fin 2) ∈ dLbl.startIndexMap from List.mem_singleton.mpr rfl)]
    have hsi : dLbl.siIdx (ix3 b w i) ⟨List.idxOf (1 : Fin 2) dLbl.startIndexMap, List.idxOf_lt_length_iff.2 (List.mem_singleton.mpr rfl)⟩ = ix3 w i 0 := by
      funext e; refine Fin.ext ?_
      match e with
      | ⟨0, _⟩ => rfl
      | ⟨1, _⟩ => rfl
      | ⟨2, _⟩ => rfl
    rw [hsi, h, toInt_small _ (by omega)]
    show min t.val 511 = t.val
    omega
  match a with
  | ⟨0, _⟩ => exact Nat.zero_add _
  | ⟨1, _⟩ => exact (congrArg (fun n => n + 0 + 0) hs).trans rfl

theorem gatherRow (x : FVec Ideal S8x20x256 .f32) (idx : IVec S8x481x8x1 32) (b : Fin 8) (w : Fin 481) (k : Fin 8) (c : Fin 256) (l : Fin 20)
    (h : idx (ix4 b w k 0) = BitVec.ofNat 32 l.val) : Host.gather dRow x idx (ix4 b w k c) = x (ix3 b l c) := by
  unfold Host.gather
  congr 1
  funext a
  refine Fin.ext ?_
  show dRow.start (ix4 b w k c) idx a + dRow.batchCoord (ix4 b w k c) a + dRow.offCoord (ix4 b w k c) a = _
  have hs : dRow.start (ix4 b w k c) idx 1 = l.val := by
    unfold GatherDims.start
    rw [dif_pos (show (1 : Fin 3) ∈ dRow.startIndexMap from List.mem_singleton.mpr rfl)]
    have hsi : dRow.siIdx (ix4 b w k c) ⟨List.idxOf (1 : Fin 3) dRow.startIndexMap, List.idxOf_lt_length_iff.2 (List.mem_singleton.mpr rfl)⟩ = ix4 b w k 0 := by
      funext e; refine Fin.ext ?_
      match e with
      | ⟨0, _⟩ => rfl
      | ⟨1, _⟩ => rfl
      | ⟨2, _⟩ => rfl
      | ⟨3, _⟩ => rfl
    rw [hsi, h, toInt_small _ (by omega)]
    show min l.val 19 = l.val
    omega
  match a with
  | ⟨0, _⟩ => exact Nat.zero_add _
  | ⟨1, _⟩ => exact (congrArg (fun n => n + 0 + 0) hs).trans rfl
  | ⟨2, _⟩ => exact Nat.zero_add _

/-- Clip `i` of window `w`. -/
abbrev clip (w : Fin 481) (i : Fin 32) : Fin 512 := ⟨w.val + i.val, by omega⟩
/-- The `i`-th of chunk `k`'s four clips, within a window. -/
abbrev pos (k : Fin 8) (i : Fin 4) : Fin 32 := ⟨k.val * 4 + i.val, by omega⟩

theorem visUnf_apply (v : FVec Ideal S8x512x256 .f32) (b : Fin 8) (w : Fin 481) (i : Fin 32) (c : Fin 256) :
    Ref.visUnf v (ix4 b w i c) = v (ix3 b (clip w i) c) := gatherVis v _ b w i c _ (win_apply w i)

theorem lblUnf_apply (x : IVec S8x512 32) (b : Fin 8) (w : Fin 481) (k : Fin 8) (i : Fin 4) :
    Ref.lblUnf x (ix4 b w k i) = x (ix2 b (clip w (pos k i))) := by
  rw [← gatherLbl x Ref.win b w (pos k i) _ (win_apply w (pos k i))]
  pointwise [Ref.lblUnf]

theorem pooled_apply (v : FVec Ideal S8x512x256 .f32) (b : Fin 8) (w : Fin 481) (k : Fin 8) (c : Fin 256) :
    Ref.pooled v (ix4 b w k c) = Ideal.div (∑ i : Fin 4, v (ix3 b (clip w (pos k i)) c)) (Ideal.ofBits .f32 0x40800000#32) := by
  have h : ∀ i : Fin 4, Ref.visUnf v (ix4 b w (pos k i) c) = v (ix3 b (clip w (pos k i)) c) := fun i => visUnf_apply v b w _ c
  simp only [← h]
  pointwise [Ref.pooled]

theorem enc_apply (q : FVec Ideal S8x20x256 .f32) (w : FVec Ideal S256x256 .f32) (b : Fin 8) (l : Fin 20) (c : Fin 256) :
    Ref.enc q w (ix3 b l c) = ∑ k : Fin 256, q (ix3 b l k) * w (ix2 k c) := by
  pointwise [Ref.enc]

theorem sim_apply (v : FVec Ideal S8x512x256 .f32) (q : FVec Ideal S8x20x256 .f32) (w : FVec Ideal S256x256 .f32) (b : Fin 8) (t : Fin 512) (l : Fin 20) :
    Ref.sim v q w (ix3 b t l) = ∑ k : Fin 256, v (ix3 b t k) * ∑ k' : Fin 256, q (ix3 b l k') * w (ix2 k' k) := by
  pointwise [Ref.sim, enc_apply]

theorem uitofp_ind (a l : Fin 20) : (FloatOps.uitofp .f32 (IntOp.cmpi .eq (wd a) (BitVec.ofNat 32 l.val)) : Ideal .f32) = ((ind (a = l) : ℕ) : EReal) := by
  have hs : ∀ w : BitVec 1, (FloatOps.uitofp .f32 w : Ideal .f32) = (((w.toNat : ℕ) : ℝ) : EReal) := fun _ => rfl
  rw [hs]
  by_cases h : a = l
  · subst h; simp [IntOp.cmpi, ind]
  · have e : IntOp.cmpi .eq (wd a) (BitVec.ofNat 32 l.val) = 0#1 := by
      show BitVec.ofBool (wd a == wd l) = _
      rw [beq_eq_false_iff_ne.mpr fun e => h (lbl_inj e)]; rfl
    rw [e]
    simp [ind, h]

theorem counts_apply (x : IVec S8x481x8x4 32) (b : Fin 8) (w : Fin 481) (k : Fin 8) (a : Fin 4 → Fin 20)
    (h : ∀ i, x (ix4 b w k i) = wd (a i)) (l : Fin 20) :
    Ref.counts (F := Ideal) x (ix4 b w k l) = ((cnt (a 0) (a 1) (a 2) (a 3) l : ℕ) : EReal) := by
  have e : ∀ i, Ref.oneHot (F := Ideal) x (ix5 b w k i l) = ((ind (a i = l) : ℕ) : EReal) := fun i => by
    rw [← uitofp_ind, ← h]
    pointwise [Ref.oneHot]
  pointwise [Ref.counts]
  simp only [e, Fin.sum_univ_four, cnt, Nat.cast_add]

/-- The majority of a chunk whose four labels are known. -/
theorem major_most (x : IVec S8x481x8x4 32) (b : Fin 8) (w : Fin 481) (k : Fin 8) (a : Fin 4 → Fin 20)
    (h : ∀ i, x (ix4 b w k i) = wd (a i)) : Ref.major (Ref.counts (F := Ideal) x) (ix3 b w k) = wd (most (a 0) (a 1) (a 2) (a 3)) := by
  rw [major_apply]
  unfold most
  simp only [counts_apply x b w k a h]

theorem rowOf_apply (e : FVec Ideal S8x20x256 .f32) (m : IVec S8x481x8 32) (b : Fin 8) (w : Fin 481) (k : Fin 8) (c : Fin 256) (l : Fin 20)
    (h : m (ix3 b w k) = wd l) : Ref.rowOf e m (ix4 b w k c) = e (ix3 b l c) := by
  refine gatherRow e _ b w k c l ?_
  pointwise [h]
  rw [slt_zero _ (by omega)]
  rfl

variable (v : FVec Ideal S8x512x256 .f32) (q : FVec Ideal S8x20x256 .f32) (w1 w2 : FVec Ideal S256x256 .f32)

/-- A clip's label, of the whole arrays. -/
def labR (b : Fin 8) (t : Fin 512) : Fin 20 :=
  best fun l => ∑ k : Fin 256, v (ix3 b t k) * ∑ k' : Fin 256, q (ix3 b l k') * w1 (ix2 k' k)

theorem labels_word (b : Fin 8) (t : Fin 512) : Ref.labels (Ref.sim v q w1) (ix2 b t) = wd (labR v q w1 b t) := by
  rw [labels_apply]
  unfold labR
  simp only [sim_apply]

/-- The reference's result. -/
theorem out_apply (b : Fin 8) (w : Fin 481) (k : Fin 8) (c : Fin 256) :
    Ref.out v q w1 w2 (ix4 b w k c)
      = (∑ c' : Fin 256, q (ix3 b (most (labR v q w1 b (clip w (pos k 0))) (labR v q w1 b (clip w (pos k 1))) (labR v q w1 b (clip w (pos k 2)))
            (labR v q w1 b (clip w (pos k 3)))) c') * w2 (ix2 c' c))
        * Ideal.div (∑ i : Fin 4, v (ix3 b (clip w (pos k i)) c)) (Ideal.ofBits .f32 0x40800000#32) := by
  have hm := major_most (Ref.lblUnf (Ref.labels (Ref.sim v q w1))) b w k (fun i => labR v q w1 b (clip w (pos k i)))
    fun i => by rw [lblUnf_apply, labels_word]
  show Ref.rowOf _ _ (ix4 b w k c) * Ref.pooled v (ix4 b w k c) = _
  rw [rowOf_apply _ _ b w k c _ hm, enc_apply, pooled_apply]

end Cert.Proof.Val

end
-- ==== Proof.ValTc.lean ====
/-
  The result buffer at an index: it holds the row of the TensorCore kernel's result that the SparseCore's copies take for it, a row
  the kernel computed from its batch's blocks of the arguments.
-/
module

public import proofs.«01_k».proof.Proof.ScMain
public import Idealize.ShloMosaic.Lib.Pointwise

@[expose] public section

set_option maxRecDepth 16384

noncomputable section

namespace Cert.Proof.Val

open Cert.KernelIdeal Cert.KernelIdeal.Gen
open Cert.Proof.Sc
open Idealize.ShloMosaic
open Idealize.ShloMosaic.TcCoe
open Idealize.SL.Sem

variable {F : FTy → Type} [FloatOps F] [∀ e, Nonempty (Elt F e)]
variable (m : (ℓ : Loc nD τ sig) → Buf (Elt F) ℓ)

/-- The block indices of the windows that move. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)

theorem N8 : cfg0.N = 8 := by decide

/-- A batch as a grid point. -/
abbrev point (b : Fin 8) : Fin cfg0.N := ⟨b.val, by rw [N8]; exact b.isLt⟩

theorem blk0_apply (c : Dev nD) (b : Fin 8) (r : Fin 512) (l : Fin 256) :
    blk0 m c (point b) (ix3 0 r l) = (m ((c : Thread nD τ).loc main_arg0) : Vec F S8x512x256 .f32) (ix3 b r l) := by
  obtain ⟨e0, e1, e2⟩ := index0 (point b)
  show (m ((c : Thread nD τ).loc main_arg0) : Vec F S8x512x256 .f32) (((cfg0.win 0).blk (point b)).view.emb (ix3 0 r l)) = _
  congr 1
  funext a; apply Fin.ext
  match a with
  | ⟨0, _⟩ => show win0_0.index (point b) (0 : Fin 3) * 1 + 1 * 0 = b.val; rw [e0]; simp
  | ⟨1, _⟩ => show win0_0.index (point b) (1 : Fin 3) * 512 + 1 * r.val = r.val; omega
  | ⟨2, _⟩ => show win0_0.index (point b) (2 : Fin 3) * 256 + 1 * l.val = l.val; omega

theorem blk1_apply (c : Dev nD) (b : Fin 8) (r : Fin 20) (l : Fin 256) :
    blk1 m c (point b) (ix3 0 r l) = (m ((c : Thread nD τ).loc main_arg1) : Vec F S8x20x256 .f32) (ix3 b r l) := by
  obtain ⟨e0, e1, e2⟩ := index1 (point b)
  show (m ((c : Thread nD τ).loc main_arg1) : Vec F S8x20x256 .f32) (((cfg0.win 1).blk (point b)).view.emb (ix3 0 r l)) = _
  congr 1
  funext a; apply Fin.ext
  match a with
  | ⟨0, _⟩ => show win0_1.index (point b) (0 : Fin 3) * 1 + 1 * 0 = b.val; rw [e0]; simp
  | ⟨1, _⟩ => show win0_1.index (point b) (1 : Fin 3) * 20 + 1 * r.val = r.val; omega
  | ⟨2, _⟩ => show win0_1.index (point b) (2 : Fin 3) * 256 + 1 * l.val = l.val; omega

theorem blk2_eq (c : Dev nD) (t : Fin cfg0.N) : blk2 m c t = (m ((c : Thread nD τ).loc main_arg2) : Vec F S256x256 .f32) := by
  obtain ⟨e0, e1⟩ := index2 t
  funext j
  show (m ((c : Thread nD τ).loc main_arg2) : Vec F S256x256 .f32) (((cfg0.win 2).blk t).view.emb j) = _
  congr 1
  funext a; apply Fin.ext
  match a with
  | ⟨0, _⟩ => show win0_2.index t (0 : Fin 2) * 256 + 1 * (j 0).val = (j 0).val; omega
  | ⟨1, _⟩ => show win0_2.index t (1 : Fin 2) * 256 + 1 * (j 1).val = (j 1).val; omega

theorem blk3_eq (c : Dev nD) (t : Fin cfg0.N) : blk3 m c t = (m ((c : Thread nD τ).loc main_arg3) : Vec F S256x256 .f32) := by
  obtain ⟨e0, e1⟩ := index3 t
  funext j
  show (m ((c : Thread nD τ).loc main_arg3) : Vec F S256x256 .f32) (((cfg0.win 3).blk t).view.emb j) = _
  congr 1
  funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- The whole result of the TensorCore kernel, row by row. -/
def whole (c : Dev nD) : Vec F S4096x256 .f32 := fun x =>
  blk4 m c ⟨(x 0).val / 512, by rw [N8]; have : (x 0).val < 4096 := (x 0).isLt; omega⟩ (ix2 ⟨(x 0).val % 512, by omega⟩ (x 1))

theorem emb4 (t : Fin cfg0.N) (j : S512x256.Idx) :
    ((((cfg0.win 4).blk t).view.emb j : S4096x256.Idx) 0).val = t.val * 512 + (j 0).val ∧ ((((cfg0.win 4).blk t).view.emb j : S4096x256.Idx) 1).val = (j 1).val := by
  obtain ⟨e0, e1⟩ := index4 t
  constructor
  · show win0_4.index t (0 : Fin 2) * 512 + 1 * (j 0).val = _; rw [e0]; omega
  · show win0_4.index t (1 : Fin 2) * 256 + 1 * (j 1).val = _; rw [e1]; omega

/-- A block written back whole is its part of an array that holds it. -/
theorem cut4 (t : Fin cfg0.N) (X : Vec F S512x256 .f32) (G : Vec F S4096x256 .f32)
    (h : ∀ j : S512x256.Idx, X j = G (((cfg0.win 4).blk t).view.emb j)) :
    (cfg0.win 4).cut (grid0.coords t) X = ((cfg0.win 4).blk t).view.read (Elt F) G := funext fun j => h j

theorem whole_emb (c : Dev nD) (t : Fin cfg0.N) (j : S512x256.Idx) : blk4 m c t j = whole m c (((cfg0.win 4).blk t).view.emb j) := by
  obtain ⟨e0, e1⟩ := emb4 t j
  have hj0 : (j 0).val < 512 := (j 0).isLt
  generalize (((cfg0.win 4).blk t).view.emb j : S4096x256.Idx) = y at e0 e1 ⊢
  unfold whole
  have h1 : (⟨(y 0).val / 512, by rw [N8]; have : (y 0).val < 4096 := (y 0).isLt; omega⟩ : Fin cfg0.N) = t := Fin.ext (by show (y 0).val / 512 = t.val; omega)
  have h2 : (ix2 ⟨(y 0).val % 512, by omega⟩ (y 1) : S512x256.Idx) = j := by
    funext a; apply Fin.ext
    match a with
    | ⟨0, _⟩ => show (y 0).val % 512 = (j 0).val; omega
    | ⟨1, _⟩ => exact e1
  rw [h1, h2]

theorem flushed4 (c : Dev nD) (t : Fin cfg0.N) : (dat m c).flushed 4 t = (cfg0.win 4).cut (grid0.coords t) (blk4 m c t) := rfl

theorem tcOut_eq (c : Dev nD) : (tcOut m c : Vec F S4096x256 .f32) = whole m c := by
  refine Pipeline.Dat.arrAt_eq_of_cover (dat m c) 4 (whole m c) (fun t _ => (flushed4 m c t).trans (cut4 t _ _ (whole_emb m c t))) fun i => ?_
  · have hi0 : ((i : S4096x256.Idx) 0).val < 4096 := ((i : S4096x256.Idx) 0).isLt
    let t : Fin cfg0.N := ⟨((i : S4096x256.Idx) 0).val / 512, by rw [N8]; omega⟩
    refine ⟨t, flush0_4 t, ?_⟩
    let j : S512x256.Idx := ix2 ⟨((i : S4096x256.Idx) 0).val % 512, by omega⟩ ((i : S4096x256.Idx) 1)
    have e : ((cfg0.win 4).blk t).view.emb j = i := by
      obtain ⟨e0, e1⟩ := emb4 t j
      funext a; apply Fin.ext
      match a with
      | ⟨0, _⟩ => refine e0.trans ?_; show ((i : S4096x256.Idx) 0).val / 512 * 512 + ((i : S4096x256.Idx) 0).val % 512 = ((i : S4096x256.Idx) 0).val; omega
      | ⟨1, _⟩ => exact e1
    have h := ((cfg0.win 4).blk t).view.emb_mem_set j
    rwa [e] at h

/-- Rows below 509 of a block are the computed ones. -/
theorem modOut_apply (x0 : Vec F S1x512x256 .f32) (x1 : Vec F S1x20x256 .f32) (x2 x3 : Vec F S256x256 .f32) (r : Fin 509) (l : Fin 256) :
    modOut x0 x1 x2 x3 (ix2 ⟨r.val, by omega⟩ l) = modRows x0 x1 x2 x3 (ix2 r l) := by
  let G : S512x256.Idx → Elt F .f32 := fun y =>
    if h : (y 0).val < 509 then modRows x0 x1 x2 x3 (ix2 ⟨(y 0).val, h⟩ (y 1)) else k0_pay2 (F := F) (ix2 ⟨(y 0).val - 509, by have : (y 0).val < 512 := (y 0).isLt; omega⟩ (y 1))
  unfold modOut
  rw [View.canon_apply_of_pieces G (modPieces x0 x1 x2 x3) ?_ _ (modPieces_cover x0 x1 x2 x3 _)]
  · exact dif_pos r.isLt
  · intro p hp x
    simp only [List.mem_cons, List.not_mem_nil, or_false] at hp
    rcases hp with rfl | rfl
    · have h : ¬ (((Rect.unit (s := S512x256) ![509, 0] S3x256.size inb_S512x256_S3x256_509_0).emb x 0).val < 509) := by
        show ¬ (509 + 1 * (x 0).val < 509); omega
      show k0_pay2 x = G _
      unfold G
      rw [dif_neg h]
      congr 1
      funext a; apply Fin.ext
      match a with
      | ⟨0, _⟩ => show (x 0).val = 509 + 1 * (x 0).val - 509; omega
      | ⟨1, _⟩ => show (x 1).val = 0 + 1 * (x 1).val; omega
    · have h : (((Rect.unit (s := S512x256) ![0, 0] S509x256.size inb_S512x256_S509x256_0_0).emb x 0).val < 509) := by
        have : (x 0).val < 509 := (x 0).isLt
        show 0 + 1 * (x 0).val < 509; omega
      show modRows x0 x1 x2 x3 x = G _
      unfold G
      rw [dif_pos h]
      congr 1
      funext a; apply Fin.ext
      match a with
      | ⟨0, _⟩ => show (x 0).val = 0 + 1 * (x 0).val; omega
      | ⟨1, _⟩ => show (x 1).val = 0 + 1 * (x 1).val; omega

theorem gathered_apply (t : Vec F S4096x2x128 .f32) (i : Fin 30784) (h : Fin 2) (l : Fin 128) (r : Fin 4096) (hr : r.val = srcRow i.val) :
    (gathered t : Vec F S30784x2x128 .f32) (ix3 i h l) = t (ix3 r h l) := by
  unfold gathered
  congr 1
  funext a; apply Fin.ext
  match a with
  | ⟨0, _⟩ => exact hr.symm
  | ⟨1, _⟩ => rfl
  | ⟨2, _⟩ => rfl

/-- The result at an index. -/
theorem outV_apply (c : Dev nD) (b : Fin 8) (w : Fin 481) (k : Fin 8) (l : Fin 256) :
    (outV m c : Vec F S8x481x8x256 .f32) (ix4 b w k l)
      = modRows (blk0 m c (point b)) (blk1 m c (point b)) (blk2 m c (point b)) (blk3 m c (point b)) (ix2 ⟨w.val + 4 * k.val, by omega⟩ l) := by
  rw [← modOut_apply]
  unfold outV tabV
  rw [tcOut_eq]
  pointwise []
  rw [gathered_apply _ _ _ _ (⟨b.val * 512 + (w.val + 4 * k.val), by omega⟩ : Fin 4096) (by
    show b.val * 512 + (w.val + 4 * k.val) = (b.val * 3848 + w.val * 8 + k.val) / 8 / 481 * 512 + (b.val * 3848 + w.val * 8 + k.val) / 8 % 481
      + 4 * ((b.val * 3848 + w.val * 8 + k.val) % 8)
    omega)]
  pointwise []
  unfold whole
  have h1 : (⟨(b.val * 512 + (w.val + 4 * k.val)) / 512, by rw [N8]; omega⟩ : Fin cfg0.N) = point b :=
    Fin.ext (by show (b.val * 512 + (w.val + 4 * k.val)) / 512 = b.val; omega)
  have h2 : (⟨(b.val * 512 + (w.val + 4 * k.val)) % 512, by omega⟩ : Fin 512) = ⟨w.val + 4 * k.val, by omega⟩ :=
    Fin.ext (by show (b.val * 512 + (w.val + 4 * k.val)) % 512 = w.val + 4 * k.val; omega)
  exact congrArg₂ (fun t r => blk4 m c t (ix2 r l)) h1 h2

end Cert.Proof.Val

end
-- ==== Proof.ValMean.lean ====
/-
  A quarter of a sum of four: the kernel multiplies by the constant a quarter, the reference divides by the constant four.
-/
module

public import Idealize.ShloMosaic.PureOps.Ideal

@[expose] public section

noncomputable section

namespace Cert.Proof.Val

open Idealize.ShloMosaic

theorem four_eq : Ideal.ofBits .f32 0x40800000#32 = ((4 : ℝ) : EReal) := by
  simp [Ideal.ofBits, Ideal.ieee, -EReal.coe_mul]; norm_num

theorem quarter_eq : Ideal.ofBits .f32 0x3E800000#32 = ((1 / 4 : ℝ) : EReal) := by
  simp [Ideal.ofBits, Ideal.ieee, -EReal.coe_mul]; norm_num

theorem div_four (x : EReal) : Ideal.div x (Ideal.ofBits .f32 0x40800000#32) = x * Ideal.ofBits .f32 0x3E800000#32 := by
  rw [four_eq, quarter_eq, Ideal.div_coe (by norm_num : (4 : ℝ) ≠ 0)]

end Cert.Proof.Val

end
-- ==== Proof.Algebraic.lean ====
/-
  The two programs compute the same result over the extended reals, on arguments that agree.
-/
module

public import proofs.«01_k».proof.Defs
public import proofs.«01_k».proof.Proof.ValKernel
public import proofs.«01_k».proof.Proof.ValRef
public import proofs.«01_k».proof.Proof.ValTc
public import proofs.«01_k».proof.Proof.ValMean

@[expose] public section

set_option maxRecDepth 16384

noncomputable section

namespace Cert.Proof

open Idealize.ShloMosaic Idealize.SL.Sem
open Cert.Proof.Val

variable (m : (ℓ : Loc KernelIdeal.nD KernelIdeal.τ KernelIdeal.sig) → Buf (Elt Ideal) ℓ) (c : Dev KernelIdeal.nD)

/-- The arguments as launched. -/
abbrev argV : Vec Ideal KernelIdeal.S8x512x256 .f32 := m ((c.tc : Thread KernelIdeal.nD KernelIdeal.τ).loc KernelIdeal.main_arg0)
abbrev argQ : Vec Ideal KernelIdeal.S8x20x256 .f32 := m ((c.tc : Thread KernelIdeal.nD KernelIdeal.τ).loc KernelIdeal.main_arg1)
abbrev argA : Vec Ideal KernelIdeal.S256x256 .f32 := m ((c.tc : Thread KernelIdeal.nD KernelIdeal.τ).loc KernelIdeal.main_arg2)
abbrev argB : Vec Ideal KernelIdeal.S256x256 .f32 := m ((c.tc : Thread KernelIdeal.nD KernelIdeal.τ).loc KernelIdeal.main_arg3)

/-- A clip's label is one on both sides. -/
theorem lab_eq (b : Fin 8) (r t : Fin 512) (h : r = t) :
    lab (Sc.blk0 m c (point b)) (Sc.blk1 m c (point b)) (Sc.blk2 m c (point b)) r = labR (argV m c) (argQ m c) (argA m c) b t := by
  subst h
  unfold lab labR simRow
  rw [blk2_eq]
  refine congrArg best (funext fun l => Finset.sum_congr rfl fun k _ => ?_)
  rw [blk0_apply]
  refine congrArg _ (Finset.sum_congr rfl fun k' _ => ?_)
  rw [blk1_apply]

/-- The kernel's result is the reference's of the kernel's arguments. -/
theorem outV_eq : (Sc.outV m c : FVec Ideal ReferenceIdeal.S8x481x8x256 .f32) = (Ref.out (F := Ideal) (argV m c) (argQ m c) (argA m c) (argB m c) : FVec Ideal ReferenceIdeal.S8x481x8x256 .f32) := by
  funext x
  obtain ⟨b, w, k, l, rfl⟩ : ∃ (b : Fin 8) (w : Fin 481) (k : Fin 8) (l : Fin 256), x = ix4 b w k l :=
    ⟨x 0, x 1, x 2, x 3, by
      funext a
      match a with
      | ⟨0, _⟩ => rfl
      | ⟨1, _⟩ => rfl
      | ⟨2, _⟩ => rfl
      | ⟨3, _⟩ => rfl⟩
  refine (outV_apply m c b w k l).trans (Eq.trans ?_ (out_apply _ _ _ _ b w k l).symm)
  rw [div_four, Fin.sum_univ_four]
  obtain ⟨r, hr, er⟩ : ∃ r : Fin 509, r.val = w.val + 4 * k.val ∧ (⟨w.val + 4 * k.val, by omega⟩ : Fin 509) = r := ⟨_, rfl, rfl⟩
  rw [er, modRows_apply]
  have h0 : (⟨r.val, by omega⟩ : Fin 512) = clip w (pos k 0) := Fin.ext (by show r.val = w.val + (k.val * 4 + 0); omega)
  have h1 : (⟨1 + r.val, by omega⟩ : Fin 512) = clip w (pos k 1) := Fin.ext (by show 1 + r.val = w.val + (k.val * 4 + 1); omega)
  have h2 : (⟨2 + r.val, by omega⟩ : Fin 512) = clip w (pos k 2) := Fin.ext (by show 2 + r.val = w.val + (k.val * 4 + 2); omega)
  have h3 : (⟨3 + r.val, by omega⟩ : Fin 512) = clip w (pos k 3) := Fin.ext (by show 3 + r.val = w.val + (k.val * 4 + 3); omega)
  unfold mostAt
  rw [h0, h1, h2, h3, lab_eq m c b _ _ rfl, lab_eq m c b _ _ rfl, lab_eq m c b _ _ rfl, lab_eq m c b _ _ rfl, blk3_eq,
    blk0_apply, blk0_apply, blk0_apply, blk0_apply]
  refine congrArg (· * _) (Finset.sum_congr rfl fun k' _ => ?_)
  rw [blk1_apply]

theorem algebraic : Cert.algebraic_KernelIdeal_ReferenceIdeal := fun m g m' g' _ hargs =>
  ⟨fun c => Sc.outV (F := Ideal) m c,
    (θ_run KernelIdeal.defs _ _).mono (fun _ h c => ⟨(h.1 c).2.2.2.2, (h.1 c).1, (h.1 c).2.1, (h.1 c).2.2.1, (h.1 c).2.2.2.1⟩) (Sc.run_main m g),
    (θ_run ReferenceIdeal.defs _ _).mono (fun r h c => by
      obtain ⟨a0, a1, a2, a3⟩ := hargs c
      refine ⟨?_, (h c ReferenceIdeal.main_arg0).trans (Ref.arg0_eq _), (h c ReferenceIdeal.main_arg1).trans (Ref.arg1_eq _),
        (h c ReferenceIdeal.main_arg2).trans (Ref.arg2_eq _), (h c ReferenceIdeal.main_arg3).trans (Ref.arg3_eq _)⟩
      refine ((h c ReferenceIdeal.main_v40).trans (Ref.out_eq _)).trans (Eq.trans ?_ (outV_eq m c).symm)
      show Ref.out (F := Ideal) (m' ((c.tc : Thread ReferenceIdeal.nD ReferenceIdeal.τ).loc ReferenceIdeal.main_arg0))
        (m' ((c.tc : Thread ReferenceIdeal.nD ReferenceIdeal.τ).loc ReferenceIdeal.main_arg1))
        (m' ((c.tc : Thread ReferenceIdeal.nD ReferenceIdeal.τ).loc ReferenceIdeal.main_arg2))
        (m' ((c.tc : Thread ReferenceIdeal.nD ReferenceIdeal.τ).loc ReferenceIdeal.main_arg3)) = _
      rw [a0, a1, a2, a3])
      (Ref.run_main m' g')⟩

end Cert.Proof

end
-- ==== Proof.lean ====
/-
  The claims: the frames of the three programs, that the idealized program is the program, and that the idealized program
  computes what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, frame_kernel, frame_kernelIdeal, frame_reference, preserves, algebraic⟩

end Cert.Proof

end
